-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v186) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S2x16384x1024 : Shape := ⟨3, ![2, 16384, 1024]⟩
abbrev S2x1024 : Shape := ⟨2, ![2, 1024]⟩
abbrev S2x1024x4608 : Shape := ⟨3, ![2, 1024, 4608]⟩
abbrev S2x4 : Shape := ⟨2, ![2, 4]⟩
abbrev S2x16384x512 : Shape := ⟨3, ![2, 16384, 512]⟩
abbrev S2x512x1024 : Shape := ⟨3, ![2, 512, 1024]⟩
abbrev S2x1024x1024 : Shape := ⟨3, ![2, 1024, 1024]⟩
abbrev S1x1024 : Shape := ⟨2, ![1, 1024]⟩
abbrev S1024 : Shape := ⟨1, ![1024]⟩
abbrev S_ : Shape := ⟨0, ![]⟩
abbrev S1x1024x1536 : Shape := ⟨3, ![1, 1024, 1536]⟩
abbrev S1024x1536 : Shape := ⟨2, ![1024, 1536]⟩
abbrev S1x4 : Shape := ⟨2, ![1, 4]⟩
abbrev S4 : Shape := ⟨1, ![4]⟩

class Facts : Prop where
  slices_S2x1024_S1x1024_0_0 : S2x1024.Slices ![0, 0] S1x1024
  shapeCasts_S1x1024_S1024 : S1x1024.ShapeCasts S1024
  bcast_S_S1024 : S_.BroadcastsInDim S1024 (![] : Fin 0 → Fin S1024.rank)
  slices_S2x1024x4608_S1x1024x1536_0_0_0 : S2x1024x4608.Slices ![0, 0, 0] S1x1024x1536
  shapeCasts_S1x1024x1536_S1024x1536 : S1x1024x1536.ShapeCasts S1024x1536
  bcast_S_S1024x1536 : S_.BroadcastsInDim S1024x1536 (![] : Fin 0 → Fin S1024x1536.rank)
  slices_S2x4_S1x4_0_0 : S2x4.Slices ![0, 0] S1x4
  shapeCasts_S1x4_S4 : S1x4.ShapeCasts S4
  bcast_S_S4 : S_.BroadcastsInDim S4 (![] : Fin 0 → Fin S4.rank)

variable [Facts]

def fn_part1 {F : FTy → Type} [FloatOps F] (main_arg4 : FVec F S2x4 .f32) (main_v6 : IVec S1024 1) (main_v13 : IVec S1024x1536 1) (main_v15 : FVec F S4 .f32) (main_v17 : IVec S4 1) (main_cst_4 : FVec F S_ .f32) : IVec S1024 1 × IVec S1024x1536 1 × IVec S4 1 × IVec S4 1 :=
  let main_v18 : FVec F S4 .f32 := broadcastInDim S4 ![] bcast_S_S4 main_cst_4
  let main_v19 : IVec S4 1 := cmpf .olt main_v15 main_v18
  let main_v20 : IVec S4 1 := andi main_v17 main_v19
  let main_v21 : FVec F S1x4 .f32 := (extractStridedSlice S1x4 ![0, 0] · slices_S2x4_S1x4_0_0) main_arg4
  let main_v22 : FVec F S4 .f32 := shapeCast S4 main_v21 shapeCasts_S1x4_S4
  let main_cst_5 : FVec F S_ .f32 := constant S_ .f32 0xFF800000#32
  let main_v23 : FVec F S4 .f32 := broadcastInDim S4 ![] bcast_S_S4 main_cst_5
  let main_v24 : IVec S4 1 := cmpf .ogt main_v22 main_v23
  let main_cst_6 : FVec F S_ .f32 := constant S_ .f32 0x7F800000#32
  let main_v25 : FVec F S4 .f32 := broadcastInDim S4 ![] bcast_S_S4 main_cst_6
  let main_v26 : IVec S4 1 := cmpf .olt main_v22 main_v25
  let main_v27 : IVec S4 1 := andi main_v24 main_v26
  (main_v6, main_v13, main_v20, main_v27)

def fn {F : FTy → Type} [FloatOps F] (main_arg0 : FVec F S2x16384x1024 .f32) (main_arg1 : FVec F S2x1024 .f32) (main_arg2 : FVec F S2x1024x4608 .f32) (main_arg3 : FVec F S2x4 .f32) (main_arg4 : FVec F S2x4 .f32) (main_arg5 : FVec F S2x16384x512 .bf16) (main_arg6 : FVec F S2x512x1024 .f32) (main_arg7 : FVec F S2x512x1024 .f32) (main_arg8 : FVec F S2x1024x1024 .f32) : IVec S1024 1 × IVec S1024x1536 1 × IVec S4 1 × IVec S4 1 :=
  let main_v0 : FVec F S1x1024 .f32 := (extractStridedSlice S1x1024 ![0, 0] · slices_S2x1024_S1x1024_0_0) main_arg1
  let main_v1 : FVec F S1024 .f32 := shapeCast S1024 main_v0 shapeCasts_S1x1024_S1024
  let main_cst : FVec F S_ .f32 := constant S_ .f32 0xFF800000#32
  let main_v2 : FVec F S1024 .f32 := broadcastInDim S1024 ![] bcast_S_S1024 main_cst
  let main_v3 : IVec S1024 1 := cmpf .ogt main_v1 main_v2
  let main_cst_0 : FVec F S_ .f32 := constant S_ .f32 0x7F800000#32
  let main_v4 : FVec F S1024 .f32 := broadcastInDim S1024 ![] bcast_S_S1024 main_cst_0
  let main_v5 : IVec S1024 1 := cmpf .olt main_v1 main_v4
  let main_v6 : IVec S1024 1 := andi main_v3 main_v5
  let main_v7 : FVec F S1x1024x1536 .f32 := (extractStridedSlice S1x1024x1536 ![0, 0, 0] · slices_S2x1024x4608_S1x1024x1536_0_0_0) main_arg2
  let main_v8 : FVec F S1024x1536 .f32 := shapeCast S1024x1536 main_v7 shapeCasts_S1x1024x1536_S1024x1536
  let main_cst_1 : FVec F S_ .f32 := constant S_ .f32 0xFF800000#32
  let main_v9 : FVec F S1024x1536 .f32 := broadcastInDim S1024x1536 ![] bcast_S_S1024x1536 main_cst_1
  let main_v10 : IVec S1024x1536 1 := cmpf .ogt main_v8 main_v9
  let main_cst_2 : FVec F S_ .f32 := constant S_ .f32 0x7F800000#32
  let main_v11 : FVec F S1024x1536 .f32 := broadcastInDim S1024x1536 ![] bcast_S_S1024x1536 main_cst_2
  let main_v12 : IVec S1024x1536 1 := cmpf .olt main_v8 main_v11
  let main_v13 : IVec S1024x1536 1 := andi main_v10 main_v12
  let main_v14 : FVec F S1x4 .f32 := (extractStridedSlice S1x4 ![0, 0] · slices_S2x4_S1x4_0_0) main_arg3
  let main_v15 : FVec F S4 .f32 := shapeCast S4 main_v14 shapeCasts_S1x4_S4
  let main_cst_3 : FVec F S_ .f32 := constant S_ .f32 0xFF800000#32
  let main_v16 : FVec F S4 .f32 := broadcastInDim S4 ![] bcast_S_S4 main_cst_3
  let main_v17 : IVec S4 1 := cmpf .ogt main_v15 main_v16
  let main_cst_4 : FVec F S_ .f32 := constant S_ .f32 0x7F800000#32
  fn_part1 (F := F) main_arg4 main_v6 main_v13 main_v15 main_v17 main_cst_4
-- ==== Kernel.lean ====
abbrev S2x16384x1024 : Shape := ⟨3, ![2, 16384, 1024]⟩
abbrev S2x1024 : Shape := ⟨2, ![2, 1024]⟩
abbrev S2x1024x4608 : Shape := ⟨3, ![2, 1024, 4608]⟩
abbrev S2x4 : Shape := ⟨2, ![2, 4]⟩
abbrev S2x16384x512 : Shape := ⟨3, ![2, 16384, 512]⟩
abbrev S2x512x1024 : Shape := ⟨3, ![2, 512, 1024]⟩
abbrev S2x1024x1024 : Shape := ⟨3, ![2, 1024, 1024]⟩
abbrev S2x1024x8x64x2 : Shape := ⟨5, ![2, 1024, 8, 64, 2]⟩
abbrev S2x1024x8x2x64 : Shape := ⟨5, ![2, 1024, 8, 2, 64]⟩
abbrev S2x1024x1536 : Shape := ⟨3, ![2, 1024, 1536]⟩
abbrev S2x1024x2560 : Shape := ⟨3, ![2, 1024, 2560]⟩
abbrev S2x1x1024 : Shape := ⟨3, ![2, 1, 1024]⟩
abbrev S2x4x256x256 : Shape := ⟨4, ![2, 4, 256, 256]⟩
abbrev S2x4x4x256x128 : Shape := ⟨5, ![2, 4, 4, 256, 128]⟩
abbrev S1x4x256x256 : Shape := ⟨4, ![1, 4, 256, 256]⟩
abbrev S1x4x4x256x128 : Shape := ⟨5, ![1, 4, 4, 256, 128]⟩
abbrev S256x256 : Shape := ⟨2, ![256, 256]⟩
abbrev S256x128 : Shape := ⟨2, ![256, 128]⟩
abbrev S1x1 : Shape := ⟨2, ![1, 1]⟩
abbrev S1x1x256x256 : Shape := ⟨4, ![1, 1, 256, 256]⟩
abbrev S1x1x1x256x128 : Shape := ⟨5, ![1, 1, 1, 256, 128]⟩
abbrev S_ : Shape := ⟨0, ![]⟩
abbrev S63 : Shape := ⟨1, ![63]⟩
abbrev S1 : Shape := ⟨1, ![1]⟩
abbrev S64 : Shape := ⟨1, ![64]⟩
abbrev S128 : Shape := ⟨1, ![128]⟩
abbrev S1x128 : Shape := ⟨2, ![1, 128]⟩
abbrev S16 : Shape := ⟨1, ![16]⟩
abbrev S16x1 : Shape := ⟨2, ![16, 1]⟩
abbrev S16x128 : Shape := ⟨2, ![16, 128]⟩
abbrev S16x1x128 : Shape := ⟨3, ![16, 1, 128]⟩
abbrev S16x2x128 : Shape := ⟨3, ![16, 2, 128]⟩
abbrev S16x2x1x128 : Shape := ⟨4, ![16, 2, 1, 128]⟩
abbrev S16x2x8x128 : Shape := ⟨4, ![16, 2, 8, 128]⟩
abbrev S1024 : Shape := ⟨1, ![1024]⟩
abbrev S1024x1 : Shape := ⟨2, ![1024, 1]⟩
abbrev S1024x128 : Shape := ⟨2, ![1024, 128]⟩
abbrev S1x1024x128 : Shape := ⟨3, ![1, 1024, 128]⟩
abbrev S4x1024x128 : Shape := ⟨3, ![4, 1024, 128]⟩
abbrev S2x16x8x128x128 : Shape := ⟨5, ![2, 16, 8, 128, 128]⟩
abbrev S1x1024x1024 : Shape := ⟨3, ![1, 1024, 1024]⟩
abbrev S1x1x1024 : Shape := ⟨3, ![1, 1, 1024]⟩
abbrev S1x1024x2560 : Shape := ⟨3, ![1, 1024, 2560]⟩
abbrev S1x2x8x128 : Shape := ⟨4, ![1, 2, 8, 128]⟩
abbrev S1x1024x512 : Shape := ⟨3, ![1, 1024, 512]⟩
abbrev S1x1x8x128x128 : Shape := ⟨5, ![1, 1, 8, 128, 128]⟩
abbrev S1024x1024 : Shape := ⟨2, ![1024, 1024]⟩
abbrev S1x1024 : Shape := ⟨2, ![1, 1024]⟩
abbrev S1x1x1x128 : Shape := ⟨4, ![1, 1, 1, 128]⟩
abbrev S1024x512 : Shape := ⟨2, ![1024, 512]⟩
abbrev S128x128 : Shape := ⟨2, ![128, 128]⟩
abbrev S1x1x1x128x128 : Shape := ⟨5, ![1, 1, 1, 128, 128]⟩
abbrev S1x16x8x128x128 : Shape := ⟨5, ![1, 16, 8, 128, 128]⟩
abbrev S2x1024x2048 : Shape := ⟨3, ![2, 1024, 2048]⟩
abbrev S1x1024x2048 : Shape := ⟨3, ![1, 1024, 2048]⟩
abbrev S1x512x1024 : Shape := ⟨3, ![1, 512, 1024]⟩
abbrev S1x256x128 : Shape := ⟨3, ![1, 256, 128]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S1x512x256 : Shape := ⟨3, ![1, 512, 256]⟩
abbrev S512x256 : Shape := ⟨2, ![512, 256]⟩

abbrev nBuf : Space → Nat
  | .hbm => 105
  | .vmem => 52
  | .smem => 8
  | _ => 0

abbrev bufTy : (tb : Table) → Fin (tcTables nBuf tb) → BufTy
  | .hbm, ⟨0, _⟩ => ⟨S2x16384x1024, .f32⟩
  | .hbm, ⟨1, _⟩ => ⟨S2x1024, .f32⟩
  | .hbm, ⟨2, _⟩ => ⟨S2x1024x4608, .f32⟩
  | .hbm, ⟨3, _⟩ => ⟨S2x4, .f32⟩
  | .hbm, ⟨4, _⟩ => ⟨S2x4, .f32⟩
  | .hbm, ⟨5, _⟩ => ⟨S2x16384x512, .bf16⟩
  | .hbm, ⟨6, _⟩ => ⟨S2x512x1024, .f32⟩
  | .hbm, ⟨7, _⟩ => ⟨S2x512x1024, .f32⟩
  | .hbm, ⟨8, _⟩ => ⟨S2x1024x1024, .f32⟩
  | .hbm, ⟨9, _⟩ => ⟨S2x1024x1024, .f32⟩
  | .hbm, ⟨10, _⟩ => ⟨S2x1024x1024, .bf16⟩
  | .hbm, ⟨11, _⟩ => ⟨S2x1024x8x64x2, .bf16⟩
  | .hbm, ⟨12, _⟩ => ⟨S2x1024x8x2x64, .bf16⟩
  | .hbm, ⟨13, _⟩ => ⟨S2x1024x1024, .bf16⟩
  | .hbm, ⟨14, _⟩ => ⟨S2x1024x1536, .f32⟩
  | .hbm, ⟨15, _⟩ => ⟨S2x1024x1536, .bf16⟩
  | .hbm, ⟨16, _⟩ => ⟨S2x1024x2560, .bf16⟩
  | .hbm, ⟨17, _⟩ => ⟨S2x1x1024, .f32⟩
  | .hbm, ⟨18, _⟩ => ⟨S2x4x256x256, .f32⟩
  | .hbm, ⟨19, _⟩ => ⟨S2x4x4x256x128, .bf16⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S63, .f32⟩
  | .hbm, ⟨28, _⟩ => ⟨S_, .f32⟩
  | .hbm, ⟨29, _⟩ => ⟨S63, .f32⟩
  | .hbm, ⟨30, _⟩ => ⟨S63, .f32⟩
  | .hbm, ⟨31, _⟩ => ⟨S1, .f32⟩
  | .hbm, ⟨32, _⟩ => ⟨S_, .f32⟩
  | .hbm, ⟨33, _⟩ => ⟨S63, .f32⟩
  | .hbm, ⟨34, _⟩ => ⟨S63, .f32⟩
  | .hbm, ⟨35, _⟩ => ⟨S63, .f32⟩
  | .hbm, ⟨36, _⟩ => ⟨S63, .f32⟩
  | .hbm, ⟨37, _⟩ => ⟨S1, .f32⟩
  | .hbm, ⟨38, _⟩ => ⟨S63, .f32⟩
  | .hbm, ⟨39, _⟩ => ⟨S63, .f32⟩
  | .hbm, ⟨40, _⟩ => ⟨S63, .f32⟩
  | .hbm, ⟨41, _⟩ => ⟨S1, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S128, .f32⟩
  | .hbm, ⟨50, _⟩ => ⟨S1x128, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S_, .f32⟩
  | .hbm, ⟨55, _⟩ => ⟨S64, .f32⟩
  | .hbm, ⟨56, _⟩ => ⟨S128, .f32⟩
  | .hbm, ⟨57, _⟩ => ⟨S1x128, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S_, .f32⟩
  | .hbm, ⟨63, _⟩ => ⟨S16, .f32⟩
  | .hbm, ⟨64, _⟩ => ⟨S16, .f32⟩
  | .hbm, ⟨65, _⟩ => ⟨S16x1, .f32⟩
  | .hbm, ⟨66, _⟩ => ⟨S16x128, .f32⟩
  | .hbm, ⟨67, _⟩ => ⟨S16x128, .f32⟩
  | .hbm, ⟨68, _⟩ => ⟨S16x128, .f32⟩
  | .hbm, ⟨69, _⟩ => ⟨S16x128, .f32⟩
  | .hbm, ⟨70, _⟩ => ⟨S16x128, .f32⟩
  | .hbm, ⟨71, _⟩ => ⟨S16x1x128, .f32⟩
  | .hbm, ⟨72, _⟩ => ⟨S16x1x128, .f32⟩
  | .hbm, ⟨73, _⟩ => ⟨S16x2x128, .f32⟩
  | .hbm, ⟨74, _⟩ => ⟨S16x2x1x128, .f32⟩
  | .hbm, ⟨75, _⟩ => ⟨S16x2x8x128, .f32⟩
  | .hbm, ⟨76, _⟩ => ⟨S1024, .f32⟩
  | .hbm, ⟨77, _⟩ => ⟨S1024x1, .f32⟩
  | .hbm, ⟨78, _⟩ => ⟨S1024x128, .f32⟩
  | .hbm, ⟨79, _⟩ => ⟨S1024x128, .f32⟩
  | .hbm, ⟨80, _⟩ => ⟨S1024x128, .f32⟩
  | .hbm, ⟨81, _⟩ => ⟨S1024x128, .f32⟩
  | .hbm, ⟨82, _⟩ => ⟨S1024x128, .f32⟩
  | .hbm, ⟨83, _⟩ => ⟨S1024x128, .f32⟩
  | .hbm, ⟨84, _⟩ => ⟨S1024x128, .f32⟩
  | .hbm, ⟨85, _⟩ => ⟨S1024x128, .f32⟩
  | .hbm, ⟨86, _⟩ => ⟨S1024x128, .f32⟩
  | .hbm, ⟨87, _⟩ => ⟨S1x1024x128, .f32⟩
  | .hbm, ⟨88, _⟩ => ⟨S1x1024x128, .f32⟩
  | .hbm, ⟨89, _⟩ => ⟨S1x1024x128, .f32⟩
  | .hbm, ⟨90, _⟩ => ⟨S1x1024x128, .f32⟩
  | .hbm, ⟨91, _⟩ => ⟨S4x1024x128, .f32⟩
  | .hbm, ⟨92, _⟩ => ⟨S2x16384x512, .bf16⟩
  | .hbm, ⟨93, _⟩ => ⟨S2x16384x512, .bf16⟩
  | .hbm, ⟨94, _⟩ => ⟨S2x16384x512, .bf16⟩
  | .hbm, ⟨95, _⟩ => ⟨S2x16384x512, .bf16⟩
  | .hbm, ⟨96, _⟩ => ⟨S2x16384x512, .bf16⟩
  | .hbm, ⟨97, _⟩ => ⟨S2x16x8x128x128, .bf16⟩
  | .hbm, ⟨98, _⟩ => ⟨S2x16x8x128x128, .f32⟩
  | .hbm, ⟨99, _⟩ => ⟨S2x1024x2048, .f32⟩
  | .hbm, ⟨100, _⟩ => ⟨S2x1024x2048, .bf16⟩
  | .hbm, ⟨101, _⟩ => ⟨S2x512x1024, .bf16⟩
  | .hbm, ⟨102, _⟩ => ⟨S2x512x1024, .bf16⟩
  | .hbm, ⟨103, _⟩ => ⟨S2x1024x1024, .bf16⟩
  | .hbm, ⟨104, _⟩ => ⟨S2x16384x1024, .f32⟩
  | .local _ .vmem, ⟨0, _⟩ => ⟨S1x4x256x256, .f32⟩
  | .local _ .vmem, ⟨1, _⟩ => ⟨S1x4x256x256, .f32⟩
  | .local _ .vmem, ⟨2, _⟩ => ⟨S1x4x4x256x128, .bf16⟩
  | .local _ .vmem, ⟨3, _⟩ => ⟨S1x4x4x256x128, .bf16⟩
  | .local _ .vmem, ⟨4, _⟩ => ⟨S1x1024x1024, .f32⟩
  | .local _ .vmem, ⟨5, _⟩ => ⟨S1x1024x1024, .f32⟩
  | .local _ .vmem, ⟨6, _⟩ => ⟨S1x1x1024, .f32⟩
  | .local _ .vmem, ⟨7, _⟩ => ⟨S1x1024x2560, .bf16⟩
  | .local _ .vmem, ⟨8, _⟩ => ⟨S1x2x8x128, .f32⟩
  | .local _ .vmem, ⟨9, _⟩ => ⟨S1x2x8x128, .f32⟩
  | .local _ .vmem, ⟨10, _⟩ => ⟨S4x1024x128, .f32⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x1024x512, .bf16⟩
  | .local _ .vmem, ⟨15, _⟩ => ⟨S1x1024x512, .bf16⟩
  | .local _ .vmem, ⟨16, _⟩ => ⟨S1x1024x512, .bf16⟩
  | .local _ .vmem, ⟨17, _⟩ => ⟨S1x1024x512, .bf16⟩
  | .local _ .vmem, ⟨18, _⟩ => ⟨S1x1024x512, .bf16⟩
  | .local _ .vmem, ⟨19, _⟩ => ⟨S1x1024x512, .bf16⟩
  | .local _ .vmem, ⟨20, _⟩ => ⟨S1x1024x512, .bf16⟩
  | .local _ .vmem, ⟨21, _⟩ => ⟨S1x1x8x128x128, .bf16⟩
  | .local _ .vmem, ⟨22, _⟩ => ⟨S1x1x8x128x128, .bf16⟩
  | .local _ .vmem, ⟨23, _⟩ => ⟨S1x16x8x128x128, .bf16⟩
  | .local _ .vmem, ⟨24, _⟩ => ⟨S1x16x8x128x128, .bf16⟩
  | .local _ .vmem, ⟨25, _⟩ => ⟨S1x16x8x128x128, .f32⟩
  | .local _ .vmem, ⟨26, _⟩ => ⟨S1x16x8x128x128, .f32⟩
  | .local _ .vmem, ⟨27, _⟩ => ⟨S1x1024x1024, .f32⟩
  | .local _ .vmem, ⟨28, _⟩ => ⟨S1x1024x1024, .f32⟩
  | .local _ .vmem, ⟨29, _⟩ => ⟨S1x1x1024, .f32⟩
  | .local _ .vmem, ⟨30, _⟩ => ⟨S1x1024x512, .bf16⟩
  | .local _ .vmem, ⟨31, _⟩ => ⟨S1x1024x512, .bf16⟩
  | .local _ .vmem, ⟨32, _⟩ => ⟨S1x1024x512, .bf16⟩
  | .local _ .vmem, ⟨33, _⟩ => ⟨S1x1024x512, .bf16⟩
  | .local _ .vmem, ⟨34, _⟩ => ⟨S1x1024x512, .bf16⟩
  | .local _ .vmem, ⟨35, _⟩ => ⟨S1x1024x512, .bf16⟩
  | .local _ .vmem, ⟨36, _⟩ => ⟨S1x1024x512, .bf16⟩
  | .local _ .vmem, ⟨37, _⟩ => ⟨S1x1024x512, .bf16⟩
  | .local _ .vmem, ⟨38, _⟩ => ⟨S1x1x8x128x128, .f32⟩
  | .local _ .vmem, ⟨39, _⟩ => ⟨S1x1x8x128x128, .f32⟩
  | .local _ .vmem, ⟨40, _⟩ => ⟨S1x4x256x256, .f32⟩
  | .local _ .vmem, ⟨41, _⟩ => ⟨S1x4x4x256x128, .bf16⟩
  | .local _ .vmem, ⟨42, _⟩ => ⟨S1x1024x512, .bf16⟩
  | .local _ .vmem, ⟨43, _⟩ => ⟨S1x1024x512, .bf16⟩
  | .local _ .vmem, ⟨44, _⟩ => ⟨S1x1024x2048, .bf16⟩
  | .local _ .vmem, ⟨45, _⟩ => ⟨S1x512x1024, .bf16⟩
  | .local _ .vmem, ⟨46, _⟩ => ⟨S1x512x1024, .bf16⟩
  | .local _ .vmem, ⟨47, _⟩ => ⟨S1x1024x1024, .bf16⟩
  | .local _ .vmem, ⟨48, _⟩ => ⟨S1x1024x1024, .f32⟩
  | .local _ .vmem, ⟨49, _⟩ => ⟨S1x1024x1024, .f32⟩
  | .local _ .vmem, ⟨50, _⟩ => ⟨S1024x512, .bf16⟩
  | .local _ .vmem, ⟨51, _⟩ => ⟨S1024x1024, .bf16⟩
  | .local _ .smem, ⟨0, _⟩ => ⟨S2x4, .f32⟩
  | .local _ .smem, ⟨1, _⟩ => ⟨S2x4, .f32⟩
  | .local _ .smem, ⟨2, _⟩ => ⟨S2x4, .f32⟩
  | .local _ .smem, ⟨3, _⟩ => ⟨S2x4, .f32⟩
  | .local _ .smem, ⟨4, _⟩ => ⟨S2x4, .f32⟩
  | .local _ .smem, ⟨5, _⟩ => ⟨S2x4, .f32⟩
  | .local _ .smem, ⟨6, _⟩ => ⟨S2x4, .f32⟩
  | .local _ .smem, ⟨7, _⟩ => ⟨S2x4, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | _, _ => false

abbrev semScoped : Fin 0 → Bool
  | ⟨_, h⟩ => absurd h (Nat.not_lt_zero _)

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  ofTc nBuf bufTy 0 58 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_cst : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_cst : Ref sig .tc := ⟨.hbm, 25, rfl⟩
abbrev main_call0_v3 : Ref sig .tc := ⟨.hbm, 26, rfl⟩
abbrev main_call0_v4 : Ref sig .tc := ⟨.hbm, 27, rfl⟩
abbrev main_call0_cst_0 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_cst_1 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_v15 : Ref sig .tc := ⟨.hbm, 40, rfl⟩
abbrev main_call0_v16 : Ref sig .tc := ⟨.hbm, 41, rfl⟩
abbrev main_v10 : Ref sig .tc := ⟨.hbm, 42, rfl⟩
abbrev main_cst_1 : Ref sig .tc := ⟨.hbm, 43, rfl⟩
abbrev main_v11 : Ref sig .tc := ⟨.hbm, 44, rfl⟩
abbrev main_v12 : Ref sig .tc := ⟨.hbm, 45, rfl⟩
abbrev main_cst_2 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_cst_3 : Ref sig .tc := ⟨.hbm, 51, rfl⟩
abbrev main_v17 : Ref sig .tc := ⟨.hbm, 52, rfl⟩
abbrev main_v18 : Ref sig .tc := ⟨.hbm, 53, rfl⟩
abbrev main_cst_4 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_cst_5 : Ref sig .tc := ⟨.hbm, 59, rfl⟩
abbrev main_v23 : Ref sig .tc := ⟨.hbm, 60, rfl⟩
abbrev main_v24 : Ref sig .tc := ⟨.hbm, 61, rfl⟩
abbrev main_cst_6 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54_0 : Ref sig .tc := ⟨.hbm, 92, rfl⟩
abbrev main_v54_1 : Ref sig .tc := ⟨.hbm, 93, rfl⟩
abbrev main_v54_2 : Ref sig .tc := ⟨.hbm, 94, rfl⟩
abbrev main_v54_3 : Ref sig .tc := ⟨.hbm, 95, rfl⟩
abbrev main_v54_4 : Ref sig .tc := ⟨.hbm, 96, rfl⟩
abbrev main_v54_5 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_v61 : Ref sig .tc := ⟨.hbm, 104, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg5_0 : Ref sig .tc := ⟨.vmem, 8, rfl⟩
abbrev cc1_stg5_1 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg7_1 : Ref sig .tc := ⟨.vmem, 12, rfl⟩
abbrev cc1_stg8_0 : Ref sig .tc := ⟨.vmem, 13, rfl⟩
abbrev cc1_stg8_1 : Ref sig .tc := ⟨.vmem, 14, rfl⟩
abbrev cc1_stg9_0 : Ref sig .tc := ⟨.vmem, 15, rfl⟩
abbrev cc1_stg9_1 : Ref sig .tc := ⟨.vmem, 16, rfl⟩
abbrev cc1_stg10_0 : Ref sig .tc := ⟨.vmem, 17, rfl⟩
abbrev cc1_stg10_1 : Ref sig .tc := ⟨.vmem, 18, rfl⟩
abbrev cc1_stg11_0 : Ref sig .tc := ⟨.vmem, 19, rfl⟩
abbrev cc1_stg11_1 : Ref sig .tc := ⟨.vmem, 20, rfl⟩
abbrev cc1_stg12_0 : Ref sig .tc := ⟨.vmem, 21, rfl⟩
abbrev cc1_stg12_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc3_stg5_0 : Ref sig .tc := ⟨.vmem, 32, rfl⟩
abbrev cc3_stg5_1 : Ref sig .tc := ⟨.vmem, 33, rfl⟩
abbrev cc3_stg6_0 : Ref sig .tc := ⟨.vmem, 34, rfl⟩
abbrev cc3_stg6_1 : Ref sig .tc := ⟨.vmem, 35, rfl⟩
abbrev cc3_stg7_0 : Ref sig .tc := ⟨.vmem, 36, rfl⟩
abbrev cc3_stg7_1 : Ref sig .tc := ⟨.vmem, 37, rfl⟩
abbrev cc3_stg8_0 : Ref sig .tc := ⟨.vmem, 38, rfl⟩
abbrev cc3_stg8_1 : Ref sig .tc := ⟨.vmem, 39, rfl⟩
abbrev cc3_stg9_0 : Ref sig .tc := ⟨.vmem, 40, rfl⟩
abbrev cc3_stg10_0 : Ref sig .tc := ⟨.vmem, 41, rfl⟩
abbrev cc3_stg11_0 : Ref sig .tc := ⟨.vmem, 42, rfl⟩
abbrev cc3_stg11_1 : Ref sig .tc := ⟨.vmem, 43, rfl⟩
abbrev cc3_stg12_0 : Ref sig .tc := ⟨.vmem, 44, rfl⟩
abbrev cc3_stg13_0 : Ref sig .tc := ⟨.vmem, 45, rfl⟩
abbrev cc3_stg14_0 : Ref sig .tc := ⟨.vmem, 46, rfl⟩
abbrev cc3_stg15_0 : Ref sig .tc := ⟨.vmem, 47, rfl⟩
abbrev cc3_stg16_0 : Ref sig .tc := ⟨.vmem, 48, rfl⟩
abbrev cc3_stg16_1 : Ref sig .tc := ⟨.vmem, 49, rfl⟩
abbrev cc3_scratch0 : Ref sig .tc := ⟨.vmem, 50, rfl⟩
abbrev cc3_scratch1 : Ref sig .tc := ⟨.vmem, 51, rfl⟩
abbrev cc0_stg0_0 : Ref sig .tc := ⟨.smem, 0, rfl⟩
abbrev cc0_stg1_0 : Ref sig .tc := ⟨.smem, 1, rfl⟩
abbrev cc1_stg0_0 : Ref sig .tc := ⟨.smem, 2, rfl⟩
abbrev cc1_stg1_0 : Ref sig .tc := ⟨.smem, 3, rfl⟩
abbrev cc2_stg0_0 : Ref sig .tc := ⟨.smem, 4, rfl⟩
abbrev cc2_stg1_0 : Ref sig .tc := ⟨.smem, 5, rfl⟩
abbrev cc3_stg0_0 : Ref sig .tc := ⟨.smem, 6, rfl⟩
abbrev cc3_stg1_0 : Ref sig .tc := ⟨.smem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc1_sem0_0 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem5_1 : DmaSem sig := 13
abbrev cc1_sem6_0 : DmaSem sig := 14
abbrev cc1_sem7_0 : DmaSem sig := 15
abbrev cc1_sem7_1 : DmaSem sig := 16
abbrev cc1_sem8_0 : DmaSem sig := 17
abbrev cc1_sem8_1 : DmaSem sig := 18
abbrev cc1_sem9_0 : DmaSem sig := 19
abbrev cc1_sem9_1 : DmaSem sig := 20
abbrev cc1_sem10_0 : DmaSem sig := 21
abbrev cc1_sem10_1 : DmaSem sig := 22
abbrev cc1_sem11_0 : DmaSem sig := 23
abbrev cc1_sem11_1 : DmaSem sig := 24
abbrev cc1_sem12_0 : DmaSem sig := 25
abbrev cc1_sem12_1 : DmaSem sig := 26
abbrev cc2_sem0_0 : DmaSem sig := 27
abbrev cc2_sem1_0 : DmaSem sig := 28
abbrev cc2_sem2_0 : DmaSem sig := 29
abbrev cc2_sem2_1 : DmaSem sig := 30
abbrev cc2_sem3_0 : DmaSem sig := 31
abbrev cc2_sem3_1 : DmaSem sig := 32
abbrev cc3_sem0_0 : DmaSem sig := 33
abbrev cc3_sem1_0 : DmaSem sig := 34
abbrev cc3_sem2_0 : DmaSem sig := 35
abbrev cc3_sem2_1 : DmaSem sig := 36
abbrev cc3_sem3_0 : DmaSem sig := 37
abbrev cc3_sem4_0 : DmaSem sig := 38
abbrev cc3_sem4_1 : DmaSem sig := 39
abbrev cc3_sem5_0 : DmaSem sig := 40
abbrev cc3_sem5_1 : DmaSem sig := 41
abbrev cc3_sem6_0 : DmaSem sig := 42
abbrev cc3_sem6_1 : DmaSem sig := 43
abbrev cc3_sem7_0 : DmaSem sig := 44
abbrev cc3_sem7_1 : DmaSem sig := 45
abbrev cc3_sem8_0 : DmaSem sig := 46
abbrev cc3_sem8_1 : DmaSem sig := 47
abbrev cc3_sem9_0 : DmaSem sig := 48
abbrev cc3_sem10_0 : DmaSem sig := 49
abbrev cc3_sem11_0 : DmaSem sig := 50
abbrev cc3_sem11_1 : DmaSem sig := 51
abbrev cc3_sem12_0 : DmaSem sig := 52
abbrev cc3_sem13_0 : DmaSem sig := 53
abbrev cc3_sem14_0 : DmaSem sig := 54
abbrev cc3_sem15_0 : DmaSem sig := 55
abbrev cc3_sem16_0 : DmaSem sig := 56
abbrev cc3_sem16_1 : DmaSem sig := 57

abbrev nD : Nat := 1
abbrev τ : Topo := Topo.v7x

variable {F : FTy → Type} [FloatOps F]

abbrev grid0 : Pipeline.Grid := ⟨1, ![2], ![false]⟩

def k0_off1 (i : grid0.Coords) : Fin 2 → Nat :=
  let arg0 : BitVec 32 := BitVec.ofNat 32 (i 0).val
  let v6 : Index := Scalar.indexCast arg0
  let c0 : Index := 0#32
  ![v6.toNat, 0]
def k0_off2 (i : grid0.Coords) : Fin 2 → Nat :=
  let arg0 : BitVec 32 := BitVec.ofNat 32 (i 0).val
  let v55 : Index := Scalar.indexCast arg0
  let c1_25 : Index := 1#32
  ![v55.toNat, 1]
def k0_off3 (i : grid0.Coords) : Fin 2 → Nat :=
  let arg0 : BitVec 32 := BitVec.ofNat 32 (i 0).val
  let v104 : Index := Scalar.indexCast arg0
  let c2_55 : Index := 2#32
  ![v104.toNat, 2]
def k0_off4 (i : grid0.Coords) : Fin 2 → Nat :=
  let arg0 : BitVec 32 := BitVec.ofNat 32 (i 0).val
  let v153 : Index := Scalar.indexCast arg0
  let c3_85 : Index := 3#32
  ![v153.toNat, 3]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S2x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x4x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x4x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_11 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_12 (i : grid1.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage1_0 : Fin 1 → Memref sig .tc .smem S2x4 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .smem S2x4 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1x1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1024x2560 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x2x8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 1 → Memref sig .tc .vmem S4x1024x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x1024x512 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x1024x512 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x1024x512 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x1024x512 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x1024x512 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x1x8x128x128 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc2_transform_3 (i : grid2.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage2_0 : Fin 1 → Memref sig .tc .smem S2x4 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .smem S2x4 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x16x8x128x128 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x16x8x128x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![2, 16], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_6 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_7 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_8 (i : grid3.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc3_transform_9 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc3_transform_10 (i : grid3.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  ![c0_i32.toNat, c0_i32_0.toNat, c0_i32_1.toNat, c0_i32_2.toNat, c0_i32_3.toNat]

def cc3_transform_11 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_12 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_13 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_14 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_15 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_16 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 1 → Memref sig .tc .smem S2x4 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 1 → Memref sig .tc .smem S2x4 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 2 → Memref sig .tc .vmem S1x1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 1 → Memref sig .tc .vmem S1x1x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S1x1024x512 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev stage3_5 : Fin 2 → Memref sig .tc .vmem S1x1024x512 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true]

abbrev stage3_6 : Fin 2 → Memref sig .tc .vmem S1x1024x512 .bf16 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true, true]

abbrev stage3_7 : Fin 2 → Memref sig .tc .vmem S1x1024x512 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true, true]

abbrev stage3_8 : Fin 2 → Memref sig .tc .vmem S1x1x8x128x128 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true, true]

abbrev stage3_9 : Fin 1 → Memref sig .tc .vmem S1x4x256x256 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false, false]

abbrev stage3_10 : Fin 1 → Memref sig .tc .vmem S1x4x4x256x128 .bf16 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false, false]

abbrev stage3_11 : Fin 2 → Memref sig .tc .vmem S1x1024x512 .bf16 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true, true]

abbrev stage3_12 : Fin 1 → Memref sig .tc .vmem S1x1024x2048 .bf16 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false, false]

abbrev stage3_13 : Fin 1 → Memref sig .tc .vmem S1x512x1024 .bf16 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false, false]

abbrev stage3_14 : Fin 1 → Memref sig .tc .vmem S1x512x1024 .bf16 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false, false]

abbrev stage3_15 : Fin 1 → Memref sig .tc .vmem S1x1024x1024 .bf16 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false, false]

abbrev stage3_16 : Fin 2 → Memref sig .tc .vmem S1x1024x1024 .f32 := fun | 0 => Memref.whole cc3_stg16_0 | 1 => Memref.whole cc3_stg16_1 | ⟨_ + 2, h⟩ => absurd h (Nat.not_lt.2 (Nat.le_add_left _ _))
abbrev sem3_16 : Fin 2 → DmaSem sig := fun | 0 => cc3_sem16_0 | 1 => cc3_sem16_1 | ⟨_ + 2, h⟩ => absurd h (Nat.not_lt.2 (Nat.le_add_left _ _))
abbrev reads3_16 : Fin grid3.rank → Bool := ![true, true]
-- ==== ReferenceIdeal.lean ====
abbrev S2x16384x1024 : Shape := ⟨3, ![2, 16384, 1024]⟩
abbrev S2x1024 : Shape := ⟨2, ![2, 1024]⟩
abbrev S2x1024x4608 : Shape := ⟨3, ![2, 1024, 4608]⟩
abbrev S2x4 : Shape := ⟨2, ![2, 4]⟩
abbrev S2x16384x512 : Shape := ⟨3, ![2, 16384, 512]⟩
abbrev S2x512x1024 : Shape := ⟨3, ![2, 512, 1024]⟩
abbrev S2x1024x1024 : Shape := ⟨3, ![2, 1024, 1024]⟩
abbrev S1x1024 : Shape := ⟨2, ![1, 1024]⟩
abbrev S1024 : Shape := ⟨1, ![1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1x1024x4608 : Shape := ⟨3, ![1, 1024, 4608]⟩
abbrev S1024x4608 : Shape := ⟨2, ![1024, 4608]⟩
abbrev S2x16384x4608 : Shape := ⟨3, ![2, 16384, 4608]⟩
abbrev S16384 : Shape := ⟨1, ![16384]⟩
abbrev S2x16384x4x128 : Shape := ⟨4, ![2, 16384, 4, 128]⟩
abbrev S63 : Shape := ⟨1, ![63]⟩
abbrev S1 : Shape := ⟨1, ![1]⟩
abbrev S64 : Shape := ⟨1, ![64]⟩
abbrev S16384x1 : Shape := ⟨2, ![16384, 1]⟩
abbrev S1x64 : Shape := ⟨2, ![1, 64]⟩
abbrev S16384x64 : Shape := ⟨2, ![16384, 64]⟩
abbrev S1x16384x1x64 : Shape := ⟨4, ![1, 16384, 1, 64]⟩
abbrev S2x16384x4x64 : Shape := ⟨4, ![2, 16384, 4, 64]⟩
abbrev S2x16384x4x64x1 : Shape := ⟨5, ![2, 16384, 4, 64, 1]⟩
abbrev S2x16384x4x64x2 : Shape := ⟨5, ![2, 16384, 4, 64, 2]⟩
abbrev S1x16384 : Shape := ⟨2, ![1, 16384]⟩
abbrev S16384x16384 : Shape := ⟨2, ![16384, 16384]⟩
abbrev S1x4 : Shape := ⟨2, ![1, 4]⟩
abbrev S4 : Shape := ⟨1, ![4]⟩
abbrev S4x1x1 : Shape := ⟨3, ![4, 1, 1]⟩
abbrev S1x16384x16384 : Shape := ⟨3, ![1, 16384, 16384]⟩
abbrev S4x16384x16384 : Shape := ⟨3, ![4, 16384, 16384]⟩
abbrev S2x4x16384x16384 : Shape := ⟨4, ![2, 4, 16384, 16384]⟩
abbrev S1x4x16384x16384 : Shape := ⟨4, ![1, 4, 16384, 16384]⟩
abbrev S2x4x128x16384 : Shape := ⟨4, ![2, 4, 128, 16384]⟩
abbrev S2x16384x4 : Shape := ⟨3, ![2, 16384, 4]⟩
abbrev S2x16384x4x1 : Shape := ⟨4, ![2, 16384, 4, 1]⟩
abbrev S1x512x1024 : Shape := ⟨3, ![1, 512, 1024]⟩
abbrev S512x1024 : Shape := ⟨2, ![512, 1024]⟩
abbrev S1x1024x1024 : Shape := ⟨3, ![1, 1024, 1024]⟩
abbrev S1024x1024 : Shape := ⟨2, ![1024, 1024]⟩

abbrev nBuf : Space → Nat
  | .hbm => 279
  | .vmem => 0
  | .smem => 0
  | _ => 0

abbrev hbmTy0_0 (i : Nat) : BufTy := match i % 128 with
  | 0 => ⟨S2x16384x1024, .f32⟩
  | 1 => ⟨S2x1024, .f32⟩
  | 2 => ⟨S2x1024x4608, .f32⟩
  | 3 => ⟨S2x4, .f32⟩
  | 4 => ⟨S2x4, .f32⟩
  | 5 => ⟨S2x16384x512, .bf16⟩
  | 6 => ⟨S2x512x1024, .f32⟩
  | 7 => ⟨S2x512x1024, .f32⟩
  | 8 => ⟨S2x1024x1024, .f32⟩
  | 9 => ⟨S1x1024, .f32⟩
  | 10 => ⟨S1024, .f32⟩
  | 11 => ⟨S2x16384x1024, .f32⟩
  | 12 => ⟨S_, .f32⟩
  | 13 => ⟨S2x16384, .f32⟩
  | 14 => ⟨S2x16384x1, .f32⟩
  | 15 => ⟨S_, .f32⟩
  | 16 => ⟨S2x16384x1, .f32⟩
  | 17 => ⟨S2x16384x1, .f32⟩
  | 18 => ⟨S_, .f32⟩
  | 19 => ⟨S2x16384x1, .f32⟩
  | 20 => ⟨S2x16384x1, .f32⟩
  | 21 => ⟨S2x16384x1, .f32⟩
  | 22 => ⟨S2x16384x1024, .f32⟩
  | 23 => ⟨S2x16384x1024, .f32⟩
  | 24 => ⟨S1x1x1024, .f32⟩
  | 25 => ⟨S2x16384x1024, .f32⟩
  | 26 => ⟨S2x16384x1024, .f32⟩
  | 27 => ⟨S1x1024x4608, .f32⟩
  | 28 => ⟨S1024x4608, .f32⟩
  | 29 => ⟨S2x16384x4608, .f32⟩
  | 30 => ⟨S2x16384x512, .f32⟩
  | 31 => ⟨S2x16384x512, .f32⟩
  | 32 => ⟨S2x16384x512, .f32⟩
  | 33 => ⟨S2x16384x512, .f32⟩
  | 34 => ⟨S2x16384x512, .f32⟩
  | 35 => ⟨S2x16384x1024, .f32⟩
  | 36 => ⟨S2x16384x1024, .f32⟩
  | 37 => ⟨S16384, .f32⟩
  | 38 => ⟨S2x16384x4x128, .f32⟩
  | 39 => ⟨S_, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S63, .f32⟩
  | 47 => ⟨S_, .f32⟩
  | 48 => ⟨S63, .f32⟩
  | 49 => ⟨S63, .f32⟩
  | 50 => ⟨S1, .f32⟩
  | 51 => ⟨S_, .f32⟩
  | 52 => ⟨S63, .f32⟩
  | 53 => ⟨S63, .f32⟩
  | 54 => ⟨S63, .f32⟩
  | 55 => ⟨S63, .f32⟩
  | 56 => ⟨S1, .f32⟩
  | 57 => ⟨S63, .f32⟩
  | 58 => ⟨S63, .f32⟩
  | 59 => ⟨S63, .f32⟩
  | 60 => ⟨S1, .f32⟩
  | 61 => ⟨S64, .f32⟩
  | 62 => ⟨S_, .f32⟩
  | 63 => ⟨S64, .f32⟩
  | 64 => ⟨S64, .f32⟩
  | 65 => ⟨S_, .f32⟩
  | 66 => ⟨S64, .f32⟩
  | 67 => ⟨S64, .f32⟩
  | 68 => ⟨S16384x1, .f32⟩
  | 69 => ⟨S1x64, .f32⟩
  | 70 => ⟨S16384x64, .f32⟩
  | 71 => ⟨S16384x64, .f32⟩
  | 72 => ⟨S16384x64, .f32⟩
  | 73 => ⟨S16384x64, .f32⟩
  | 74 => ⟨S1x16384x1x64, .f32⟩
  | 75 => ⟨S16384x64, .f32⟩
  | 76 => ⟨S1x16384x1x64, .f32⟩
  | 77 => ⟨S2x16384x4x64, .f32⟩
  | 78 => ⟨S2x16384x4x64, .f32⟩
  | 79 => ⟨S2x16384x4x64, .f32⟩
  | 80 => ⟨S2x16384x4x64, .f32⟩
  | 81 => ⟨S2x16384x4x64, .f32⟩
  | 82 => ⟨S2x16384x4x64, .f32⟩
  | 83 => ⟨S2x16384x4x64, .f32⟩
  | 84 => ⟨S2x16384x4x64, .f32⟩
  | 85 => ⟨S2x16384x4x64, .f32⟩
  | 86 => ⟨S2x16384x4x64, .f32⟩
  | 87 => ⟨S2x16384x4x64, .f32⟩
  | 88 => ⟨S2x16384x4x64, .f32⟩
  | 89 => ⟨S2x16384x4x64x1, .f32⟩
  | 90 => ⟨S2x16384x4x64x1, .f32⟩
  | 91 => ⟨S2x16384x4x64x2, .f32⟩
  | 92 => ⟨S2x16384x4x128, .f32⟩
  | 93 => ⟨S2x16384x4x128, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S63, .f32⟩
  | 102 => ⟨S_, .f32⟩
  | 103 => ⟨S63, .f32⟩
  | 104 => ⟨S63, .f32⟩
  | 105 => ⟨S1, .f32⟩
  | 106 => ⟨S_, .f32⟩
  | 107 => ⟨S63, .f32⟩
  | 108 => ⟨S63, .f32⟩
  | 109 => ⟨S63, .f32⟩
  | 110 => ⟨S63, .f32⟩
  | 111 => ⟨S1, .f32⟩
  | 112 => ⟨S63, .f32⟩
  | 113 => ⟨S63, .f32⟩
  | 114 => ⟨S63, .f32⟩
  | 115 => ⟨S1, .f32⟩
  | 116 => ⟨S64, .f32⟩
  | 117 => ⟨S_, .f32⟩
  | 118 => ⟨S64, .f32⟩
  | 119 => ⟨S64, .f32⟩
  | 120 => ⟨S_, .f32⟩
  | 121 => ⟨S64, .f32⟩
  | 122 => ⟨S64, .f32⟩
  | 123 => ⟨S16384x1, .f32⟩
  | 124 => ⟨S1x64, .f32⟩
  | 125 => ⟨S16384x64, .f32⟩
  | 126 => ⟨S16384x64, .f32⟩
  | 127 => ⟨S16384x64, .f32⟩
  | _ => ⟨S2x16384x1024, .f32⟩

abbrev hbmTy0_1 (i : Nat) : BufTy := match i % 128 with
  | 0 => ⟨S16384x64, .f32⟩
  | 1 => ⟨S1x16384x1x64, .f32⟩
  | 2 => ⟨S16384x64, .f32⟩
  | 3 => ⟨S1x16384x1x64, .f32⟩
  | 4 => ⟨S2x16384x4x64, .f32⟩
  | 5 => ⟨S2x16384x4x64, .f32⟩
  | 6 => ⟨S2x16384x4x64, .f32⟩
  | 7 => ⟨S2x16384x4x64, .f32⟩
  | 8 => ⟨S2x16384x4x64, .f32⟩
  | 9 => ⟨S2x16384x4x64, .f32⟩
  | 10 => ⟨S2x16384x4x64, .f32⟩
  | 11 => ⟨S2x16384x4x64, .f32⟩
  | 12 => ⟨S2x16384x4x64, .f32⟩
  | 13 => ⟨S2x16384x4x64, .f32⟩
  | 14 => ⟨S2x16384x4x64, .f32⟩
  | 15 => ⟨S2x16384x4x64, .f32⟩
  | 16 => ⟨S2x16384x4x64x1, .f32⟩
  | 17 => ⟨S2x16384x4x64x1, .f32⟩
  | 18 => ⟨S2x16384x4x64x2, .f32⟩
  | 19 => ⟨S2x16384x4x128, .f32⟩
  | 20 => ⟨S_, .f32⟩
  | 21 => ⟨S2x16384x4x128, .f32⟩
  | 22 => ⟨S2x16384x4x128, .f32⟩
  | 23 => ⟨S2x16384x4x128, .f32⟩
  | 24 => ⟨S16384, .i32⟩
  | 25 => ⟨S16384x1, .i32⟩
  | 26 => ⟨S1x16384, .i32⟩
  | 27 => ⟨S16384x16384, .i32⟩
  | 28 => ⟨S16384x16384, .i32⟩
  | 29 => ⟨S16384x16384, .i32⟩
  | 30 => ⟨S16384x16384, .f32⟩
  | 31 => ⟨S1x4, .f32⟩
  | 32 => ⟨S4, .f32⟩
  | 33 => ⟨S16384x1, .i32⟩
  | 34 => ⟨S1x16384, .i32⟩
  | 35 => ⟨S16384x16384, .i32⟩
  | 36 => ⟨S16384x16384, .i32⟩
  | 37 => ⟨S16384x16384, .i1⟩
  | 38 => ⟨S4x1x1, .f32⟩
  | 39 => ⟨S_, .f32⟩
  | 40 => ⟨S_, .f32⟩
  | 41 => ⟨S16384x16384, .f32⟩
  | 42 => ⟨S16384x16384, .f32⟩
  | 43 => ⟨S1x16384x16384, .f32⟩
  | 44 => ⟨S4x16384x16384, .f32⟩
  | 45 => ⟨S4x16384x16384, .f32⟩
  | 46 => ⟨S4x16384x16384, .f32⟩
  | 47 => ⟨S4x16384x16384, .f32⟩
  | 48 => ⟨S_, .f32⟩
  | 49 => ⟨S_, .f32⟩
  | 50 => ⟨S4x16384x16384, .i1⟩
  | 51 => ⟨S4x16384x16384, .f32⟩
  | 52 => ⟨S4x16384x16384, .f32⟩
  | 53 => ⟨S2x4x16384x16384, .f32⟩
  | 54 => ⟨S1x4x16384x16384, .f32⟩
  | 55 => ⟨S2x4x16384x16384, .f32⟩
  | 56 => ⟨S2x4x16384x16384, .f32⟩
  | 57 => ⟨S2x4x128x16384, .f32⟩
  | 58 => ⟨S2x16384x4x128, .f32⟩
  | 59 => ⟨S1x4, .f32⟩
  | 60 => ⟨S4, .f32⟩
  | 61 => ⟨S16384x16384, .f32⟩
  | 62 => ⟨S16384x1, .i32⟩
  | 63 => ⟨S1x16384, .i32⟩
  | 64 => ⟨S16384x16384, .i32⟩
  | 65 => ⟨S16384x16384, .i32⟩
  | 66 => ⟨S16384x16384, .i1⟩
  | 67 => ⟨S4x1x1, .f32⟩
  | 68 => ⟨S_, .f32⟩
  | 69 => ⟨S_, .f32⟩
  | 70 => ⟨S16384x16384, .f32⟩
  | 71 => ⟨S16384x16384, .f32⟩
  | 72 => ⟨S1x16384x16384, .f32⟩
  | 73 => ⟨S4x16384x16384, .f32⟩
  | 74 => ⟨S4x16384x16384, .f32⟩
  | 75 => ⟨S4x16384x16384, .f32⟩
  | 76 => ⟨S4x16384x16384, .f32⟩
  | 77 => ⟨S_, .f32⟩
  | 78 => ⟨S_, .f32⟩
  | 79 => ⟨S4x16384x16384, .i1⟩
  | 80 => ⟨S4x16384x16384, .f32⟩
  | 81 => ⟨S4x16384x16384, .f32⟩
  | 82 => ⟨S2x4x16384x16384, .f32⟩
  | 83 => ⟨S1x4x16384x16384, .f32⟩
  | 84 => ⟨S2x4x16384x16384, .f32⟩
  | 85 => ⟨S2x4x16384x16384, .f32⟩
  | 86 => ⟨S2x4x128x16384, .f32⟩
  | 87 => ⟨S2x16384x4x128, .f32⟩
  | 88 => ⟨S2x16384x4x128, .f32⟩
  | 89 => ⟨S_, .f32⟩
  | 90 => ⟨S2x16384x4, .f32⟩
  | 91 => ⟨S2x16384x4x1, .f32⟩
  | 92 => ⟨S_, .f32⟩
  | 93 => ⟨S2x16384x4x1, .f32⟩
  | 94 => ⟨S2x16384x4x1, .f32⟩
  | 95 => ⟨S2x16384x4x128, .f32⟩
  | 96 => ⟨S2x16384x4x128, .f32⟩
  | 97 => ⟨S2x16384x4x128, .f32⟩
  | 98 => ⟨S_, .f32⟩
  | 99 => ⟨S2x16384x4, .f32⟩
  | 100 => ⟨S2x16384x4x1, .f32⟩
  | 101 => ⟨S_, .f32⟩
  | 102 => ⟨S2x16384x4x1, .f32⟩
  | 103 => ⟨S2x16384x4x1, .f32⟩
  | 104 => ⟨S_, .f32⟩
  | 105 => ⟨S2x16384x4x1, .f32⟩
  | 106 => ⟨S2x16384x4x1, .f32⟩
  | 107 => ⟨S2x16384x4x1, .f32⟩
  | 108 => ⟨S2x16384x4x128, .f32⟩
  | 109 => ⟨S2x16384x4x128, .f32⟩
  | 110 => ⟨S2x16384x512, .f32⟩
  | 111 => ⟨S2x16384x512, .f32⟩
  | 112 => ⟨S_, .f32⟩
  | 113 => ⟨S2x16384x512, .f32⟩
  | 114 => ⟨S2x16384x512, .f32⟩
  | 115 => ⟨S_, .f32⟩
  | 116 => ⟨S2x16384x512, .f32⟩
  | 117 => ⟨S2x16384x512, .f32⟩
  | 118 => ⟨S2x16384x512, .f32⟩
  | 119 => ⟨S2x16384x512, .f32⟩
  | 120 => ⟨S2x16384x512, .f32⟩
  | 121 => ⟨S1x512x1024, .f32⟩
  | 122 => ⟨S512x1024, .f32⟩
  | 123 => ⟨S2x16384x1024, .f32⟩
  | 124 => ⟨S2x16384x512, .f32⟩
  | 125 => ⟨S1x512x1024, .f32⟩
  | 126 => ⟨S512x1024, .f32⟩
  | 127 => ⟨S2x16384x1024, .f32⟩
  | _ => ⟨S2x16384x1024, .f32⟩

abbrev hbmTy0_2 (i : Nat) : BufTy := match i % 128 with
  | 0 => ⟨S2x16384x1024, .f32⟩
  | 1 => ⟨S2x16384x1024, .f32⟩
  | 2 => ⟨S_, .f32⟩
  | 3 => ⟨S2x16384x1024, .f32⟩
  | 4 => ⟨S2x16384x1024, .f32⟩
  | 5 => ⟨S_, .f32⟩
  | 6 => ⟨S2x16384x1024, .f32⟩
  | 7 => ⟨S2x16384x1024, .f32⟩
  | 8 => ⟨S2x16384x1024, .f32⟩
  | 9 => ⟨S2x16384x1024, .f32⟩
  | 10 => ⟨S2x16384x1024, .f32⟩
  | 11 => ⟨S_, .f32⟩
  | 12 => ⟨S2x16384x1024, .f32⟩
  | 13 => ⟨S2x16384x1024, .f32⟩
  | 14 => ⟨S_, .f32⟩
  | 15 => ⟨S2x16384x1024, .f32⟩
  | 16 => ⟨S2x16384x1024, .f32⟩
  | 17 => ⟨S2x16384x1024, .f32⟩
  | 18 => ⟨S2x16384x1024, .f32⟩
  | 19 => ⟨S1x1024x1024, .f32⟩
  | 20 => ⟨S1024x1024, .f32⟩
  | 21 => ⟨S2x16384x1024, .f32⟩
  | 22 => ⟨S2x16384x1024, .f32⟩
  | _ => ⟨S2x16384x1024, .f32⟩

abbrev hbmTy (i : Nat) : BufTy := match i / 128 with
  | 0 => hbmTy0_0 i
  | 1 => hbmTy0_1 i
  | 2 => hbmTy0_2 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_2 : Ref sig .tc := ⟨.hbm, 39, rfl⟩
abbrev main_cst_3 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_cst : Ref sig .tc := ⟨.hbm, 44, rfl⟩
abbrev main_call0_v3 : Ref sig .tc := ⟨.hbm, 45, rfl⟩
abbrev main_call0_v4 : Ref sig .tc := ⟨.hbm, 46, rfl⟩
abbrev main_call0_cst_0 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_cst_1 : Ref sig .tc := ⟨.hbm, 51, rfl⟩
abbrev main_call0_v8 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_call0_v15 : Ref sig .tc := ⟨.hbm, 59, rfl⟩
abbrev main_call0_v16 : Ref sig .tc := ⟨.hbm, 60, rfl⟩
abbrev main_v27 : Ref sig .tc := ⟨.hbm, 61, rfl⟩
abbrev main_cst_4 : Ref sig .tc := ⟨.hbm, 62, rfl⟩
abbrev main_v28 : Ref sig .tc := ⟨.hbm, 63, rfl⟩
abbrev main_v29 : Ref sig .tc := ⟨.hbm, 64, rfl⟩
abbrev main_cst_5 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_cst_6 : Ref sig .tc := ⟨.hbm, 94, rfl⟩
abbrev main_cst_7 : Ref sig .tc := ⟨.hbm, 95, rfl⟩
abbrev main_call1_v0 : Ref sig .tc := ⟨.hbm, 96, rfl⟩
abbrev main_call1_v1 : Ref sig .tc := ⟨.hbm, 97, rfl⟩
abbrev main_call1_v2 : Ref sig .tc := ⟨.hbm, 98, rfl⟩
abbrev main_call1_cst : Ref sig .tc := ⟨.hbm, 99, rfl⟩
abbrev main_call1_v3 : Ref sig .tc := ⟨.hbm, 100, rfl⟩
abbrev main_call1_v4 : Ref sig .tc := ⟨.hbm, 101, rfl⟩
abbrev main_call1_cst_0 : Ref sig .tc := ⟨.hbm, 102, rfl⟩
abbrev main_call1_v5 : Ref sig .tc := ⟨.hbm, 103, rfl⟩
abbrev main_call1_v6 : Ref sig .tc := ⟨.hbm, 104, rfl⟩
abbrev main_call1_v7 : Ref sig .tc := ⟨.hbm, 105, rfl⟩
abbrev main_call1_cst_1 : Ref sig .tc := ⟨.hbm, 106, rfl⟩
abbrev main_call1_v8 : Ref sig .tc := ⟨.hbm, 107, rfl⟩
abbrev main_call1_v9 : Ref sig .tc := ⟨.hbm, 108, rfl⟩
abbrev main_call1_v10 : Ref sig .tc := ⟨.hbm, 109, rfl⟩
abbrev main_call1_v11 : Ref sig .tc := ⟨.hbm, 110, rfl⟩
abbrev main_call1_v12 : Ref sig .tc := ⟨.hbm, 111, rfl⟩
abbrev main_call1_v13 : Ref sig .tc := ⟨.hbm, 112, rfl⟩
abbrev main_call1_v14 : Ref sig .tc := ⟨.hbm, 113, rfl⟩
abbrev main_call1_v15 : Ref sig .tc := ⟨.hbm, 114, rfl⟩
abbrev main_call1_v16 : Ref sig .tc := ⟨.hbm, 115, rfl⟩
abbrev main_v58 : Ref sig .tc := ⟨.hbm, 116, rfl⟩
abbrev main_cst_8 : Ref sig .tc := ⟨.hbm, 117, rfl⟩
abbrev main_v59 : Ref sig .tc := ⟨.hbm, 118, rfl⟩
abbrev main_v60 : Ref sig .tc := ⟨.hbm, 119, rfl⟩
abbrev main_cst_9 : Ref sig .tc := ⟨.hbm, 120, rfl⟩
abbrev main_v61 : Ref sig .tc := ⟨.hbm, 121, rfl⟩
abbrev main_v62 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_cst_10 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_v94 : Ref sig .tc := ⟨.hbm, 155, rfl⟩
abbrev main_v95 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_cst_11 : Ref sig .tc := ⟨.hbm, 167, rfl⟩
abbrev main_call2_v0 : Ref sig .tc := ⟨.hbm, 168, rfl⟩
abbrev main_call2_v1 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_cst_12 : Ref sig .tc := ⟨.hbm, 176, rfl⟩
abbrev main_call3_v0 : Ref sig .tc := ⟨.hbm, 177, rfl⟩
abbrev main_call3_v1 : Ref sig .tc := ⟨.hbm, 178, rfl⟩
abbrev main_call3_v2 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_v115 : Ref sig .tc := ⟨.hbm, 183, rfl⟩
abbrev main_v116 : Ref sig .tc := ⟨.hbm, 184, rfl⟩
abbrev main_v117 : Ref sig .tc := ⟨.hbm, 185, rfl⟩
abbrev main_v118 : Ref sig .tc := ⟨.hbm, 186, rfl⟩
abbrev main_v119 : Ref sig .tc := ⟨.hbm, 187, rfl⟩
abbrev main_v120 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_cst_13 : Ref sig .tc := ⟨.hbm, 196, rfl⟩
abbrev main_call4_v0 : Ref sig .tc := ⟨.hbm, 197, rfl⟩
abbrev main_call4_v1 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_cst_14 : Ref sig .tc := ⟨.hbm, 205, rfl⟩
abbrev main_call5_v0 : Ref sig .tc := ⟨.hbm, 206, rfl⟩
abbrev main_call5_v1 : Ref sig .tc := ⟨.hbm, 207, rfl⟩
abbrev main_call5_v2 : Ref sig .tc := ⟨.hbm, 208, rfl⟩
abbrev main_v134 : Ref sig .tc := ⟨.hbm, 209, rfl⟩
abbrev main_v135 : Ref sig .tc := ⟨.hbm, 210, rfl⟩
abbrev main_v136 : Ref sig .tc := ⟨.hbm, 211, rfl⟩
abbrev main_v137 : Ref sig .tc := ⟨.hbm, 212, rfl⟩
abbrev main_v138 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_cst_15 : Ref sig .tc := ⟨.hbm, 217, rfl⟩
abbrev main_v142 : Ref sig .tc := ⟨.hbm, 218, rfl⟩
abbrev main_v143 : Ref sig .tc := ⟨.hbm, 219, rfl⟩
abbrev main_cst_16 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_cst_17 : Ref sig .tc := ⟨.hbm, 226, rfl⟩
abbrev main_v149 : Ref sig .tc := ⟨.hbm, 227, rfl⟩
abbrev main_v150 : Ref sig .tc := ⟨.hbm, 228, rfl⟩
abbrev main_cst_18 : Ref sig .tc := ⟨.hbm, 229, rfl⟩
abbrev main_v151 : Ref sig .tc := ⟨.hbm, 230, rfl⟩
abbrev main_v152 : Ref sig .tc := ⟨.hbm, 231, rfl⟩
abbrev main_cst_19 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_v156 : Ref sig .tc := ⟨.hbm, 236, rfl⟩
abbrev main_v157 : Ref sig .tc := ⟨.hbm, 237, rfl⟩
abbrev main_call6_v0 : Ref sig .tc := ⟨.hbm, 238, rfl⟩
abbrev main_call6_v1 : Ref sig .tc := ⟨.hbm, 239, rfl⟩
abbrev main_call6_cst : Ref sig .tc := ⟨.hbm, 240, rfl⟩
abbrev main_call6_v2 : Ref sig .tc := ⟨.hbm, 241, rfl⟩
abbrev main_call6_v3 : Ref sig .tc := ⟨.hbm, 242, rfl⟩
abbrev main_call6_cst_0 : Ref sig .tc := ⟨.hbm, 243, rfl⟩
abbrev main_call6_v4 : Ref sig .tc := ⟨.hbm, 244, rfl⟩
abbrev main_call6_v5 : Ref sig .tc := ⟨.hbm, 245, rfl⟩
abbrev main_v158 : Ref sig .tc := ⟨.hbm, 246, rfl⟩
abbrev main_v159 : Ref sig .tc := ⟨.hbm, 247, rfl⟩
abbrev main_v160 : Ref sig .tc := ⟨.hbm, 248, rfl⟩
abbrev main_v161 : Ref sig .tc := ⟨.hbm, 249, rfl⟩
abbrev main_v162 : Ref sig .tc := ⟨.hbm, 250, rfl⟩
abbrev main_v163 : Ref sig .tc := ⟨.hbm, 251, rfl⟩
abbrev main_v164 : Ref sig .tc := ⟨.hbm, 252, rfl⟩
abbrev main_v165 : Ref sig .tc := ⟨.hbm, 253, rfl⟩
abbrev main_v166 : Ref sig .tc := ⟨.hbm, 254, rfl⟩
abbrev main_v167 : Ref sig .tc := ⟨.hbm, 255, rfl⟩
abbrev main_v168 : Ref sig .tc := ⟨.hbm, 256, rfl⟩
abbrev main_v169 : Ref sig .tc := ⟨.hbm, 257, rfl⟩
abbrev main_cst_20 : Ref sig .tc := ⟨.hbm, 258, rfl⟩
abbrev main_v170 : Ref sig .tc := ⟨.hbm, 259, rfl⟩
abbrev main_v171 : Ref sig .tc := ⟨.hbm, 260, rfl⟩
abbrev main_cst_21 : Ref sig .tc := ⟨.hbm, 261, rfl⟩
abbrev main_v172 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_v176 : Ref sig .tc := ⟨.hbm, 266, rfl⟩
abbrev main_cst_22 : Ref sig .tc := ⟨.hbm, 267, rfl⟩
abbrev main_v177 : Ref sig .tc := ⟨.hbm, 268, rfl⟩
abbrev main_v178 : Ref sig .tc := ⟨.hbm, 269, rfl⟩
abbrev main_cst_23 : Ref sig .tc := ⟨.hbm, 270, rfl⟩
abbrev main_v179 : Ref sig .tc := ⟨.hbm, 271, rfl⟩
abbrev main_v180 : Ref sig .tc := ⟨.hbm, 272, rfl⟩
abbrev main_v181 : Ref sig .tc := ⟨.hbm, 273, rfl⟩
abbrev main_v182 : Ref sig .tc := ⟨.hbm, 274, rfl⟩
abbrev main_v183 : Ref sig .tc := ⟨.hbm, 275, rfl⟩
abbrev main_v184 : Ref sig .tc := ⟨.hbm, 276, rfl⟩
abbrev main_v185 : Ref sig .tc := ⟨.hbm, 277, rfl⟩
abbrev main_v186 : Ref sig .tc := ⟨.hbm, 278, rfl⟩

abbrev nD : Nat := 1
abbrev τ : Topo := Topo.v7x

variable {F : FTy → Type} [FloatOps F]
-- ==== Kernel2.lean ====
abbrev S32768x1024 : Shape := ⟨2, ![32768, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S2x1x1024 : Shape := ⟨3, ![2, 1, 1024]⟩
abbrev S1x1x1024 : Shape := ⟨3, ![1, 1, 1024]⟩
abbrev S1024x1024 : Shape := ⟨2, ![1024, 1024]⟩
abbrev S1x1024x5632 : Shape := ⟨3, ![1, 1024, 5632]⟩
abbrev S1x2816x1024 : Shape := ⟨3, ![1, 2816, 1024]⟩
abbrev S1024x2816 : Shape := ⟨2, ![1024, 2816]⟩
abbrev S1x1024 : Shape := ⟨2, ![1, 1024]⟩
abbrev S1024x1 : Shape := ⟨2, ![1024, 1]⟩
abbrev S1x1024x256 : Shape := ⟨3, ![1, 1024, 256]⟩
abbrev S1024x256 : Shape := ⟨2, ![1024, 256]⟩
abbrev S2816x1024 : Shape := ⟨2, ![2816, 1024]⟩

abbrev nBuf : Space → Nat
  | .hbm => 10
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S1024, .f32⟩
  | .hbm, ⟨5, _⟩ => ⟨S2x1x1024, .f32⟩
  | .hbm, ⟨6, _⟩ => ⟨S2x1024x5632, .bf16⟩
  | .hbm, ⟨7, _⟩ => ⟨S2x2816x1024, .bf16⟩
  | .hbm, ⟨8, _⟩ => ⟨S1x1x1024, .f32⟩
  | .hbm, ⟨9, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S1x1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S32768x1024 : Shape := ⟨2, ![32768, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1x1024 : Shape := ⟨2, ![1, 1024]⟩
abbrev S_ : Shape := ⟨0, ![]⟩
abbrev S32768 : Shape := ⟨1, ![32768]⟩
abbrev S32768x1 : Shape := ⟨2, ![32768, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S32768x5632 : Shape := ⟨2, ![32768, 5632]⟩
abbrev S32768x2816 : Shape := ⟨2, ![32768, 2816]⟩

abbrev nBuf : Space → Nat
  | .hbm => 61
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S32768x1024, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x1024, .f32⟩
  | .hbm, ⟨19, _⟩ => ⟨S32768x1024, .f32⟩
  | .hbm, ⟨20, _⟩ => ⟨S1x1024, .f32⟩
  | .hbm, ⟨21, _⟩ => ⟨S32768x1024, .f32⟩
  | .hbm, ⟨22, _⟩ => ⟨S32768x1024, .f32⟩
  | .hbm, ⟨23, _⟩ => ⟨S1x1024x5632, .f32⟩
  | .hbm, ⟨24, _⟩ => ⟨S1024x5632, .f32⟩
  | .hbm, ⟨25, _⟩ => ⟨S1x2816x1024, .f32⟩
  | .hbm, ⟨26, _⟩ => ⟨S2816x1024, .f32⟩
  | .hbm, ⟨27, _⟩ => ⟨S32768x5632, .f32⟩
  | .hbm, ⟨28, _⟩ => ⟨S32768x2816, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S_, .f32⟩
  | .hbm, ⟨33, _⟩ => ⟨S32768x2816, .f32⟩
  | .hbm, ⟨34, _⟩ => ⟨S32768x2816, .f32⟩
  | .hbm, ⟨35, _⟩ => ⟨S_, .f32⟩
  | .hbm, ⟨36, _⟩ => ⟨S32768x2816, .f32⟩
  | .hbm, ⟨37, _⟩ => ⟨S32768x2816, .f32⟩
  | .hbm, ⟨38, _⟩ => ⟨S32768x2816, .f32⟩
  | .hbm, ⟨39, _⟩ => ⟨S32768x2816, .f32⟩
  | .hbm, ⟨40, _⟩ => ⟨S32768x1024, .f32⟩
  | .hbm, ⟨41, _⟩ => ⟨S_, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S_, .f32⟩
  | .hbm, ⟨47, _⟩ => ⟨S32768, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S_, .f32⟩
  | .hbm, ⟨53, _⟩ => ⟨S32768x1, .f32⟩
  | .hbm, ⟨54, _⟩ => ⟨S32768x1, .f32⟩
  | .hbm, ⟨55, _⟩ => ⟨S32768x1, .f32⟩
  | .hbm, ⟨56, _⟩ => ⟨S32768x1024, .f32⟩
  | .hbm, ⟨57, _⟩ => ⟨S32768x1024, .f32⟩
  | .hbm, ⟨58, _⟩ => ⟨S1x1024, .f32⟩
  | .hbm, ⟨59, _⟩ => ⟨S32768x1024, .f32⟩
  | .hbm, ⟨60, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩

abbrev nD : Nat := 1
abbrev τ : Topo := Topo.v7x

variable {F : FTy → Type} [FloatOps F]
-- ==== Kernel3.lean ====
abbrev S32768x1024 : Shape := ⟨2, ![32768, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S2x1x1024 : Shape := ⟨3, ![2, 1, 1024]⟩
abbrev S1x1x1024 : Shape := ⟨3, ![1, 1, 1024]⟩
abbrev S1024x1024 : Shape := ⟨2, ![1024, 1024]⟩
abbrev S1x1024x5632 : Shape := ⟨3, ![1, 1024, 5632]⟩
abbrev S1x2816x1024 : Shape := ⟨3, ![1, 2816, 1024]⟩
abbrev S1024x2816 : Shape := ⟨2, ![1024, 2816]⟩
abbrev S1x1024 : Shape := ⟨2, ![1, 1024]⟩
abbrev S1024x1 : Shape := ⟨2, ![1024, 1]⟩
abbrev S1x1024x256 : Shape := ⟨3, ![1, 1024, 256]⟩
abbrev S1024x256 : Shape := ⟨2, ![1024, 256]⟩
abbrev S2816x1024 : Shape := ⟨2, ![2816, 1024]⟩

abbrev nBuf : Space → Nat
  | .hbm => 10
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S1024, .f32⟩
  | .hbm, ⟨5, _⟩ => ⟨S2x1x1024, .f32⟩
  | .hbm, ⟨6, _⟩ => ⟨S2x1024x5632, .bf16⟩
  | .hbm, ⟨7, _⟩ => ⟨S2x2816x1024, .bf16⟩
  | .hbm, ⟨8, _⟩ => ⟨S1x1x1024, .f32⟩
  | .hbm, ⟨9, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x5632, .bf16⟩
  | .local _ .vmem, ⟨4, _⟩ => ⟨S1x2816x1024, .bf16⟩
  | .local _ .vmem, ⟨5, _⟩ => ⟨S1x1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x2816, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S32768x1024 : Shape := ⟨2, ![32768, 1024]⟩
abbrev S2x1024 : Shape := ⟨2, ![2, 1024]⟩
abbrev S2x1024x5632 : Shape := ⟨3, ![2, 1024, 5632]⟩
abbrev S2x2816x1024 : Shape := ⟨3, ![2, 2816, 1024]⟩
abbrev S1024 : Shape := ⟨1, ![1024]⟩
abbrev S1x1024 : Shape := ⟨2, ![1, 1024]⟩
abbrev S_ : Shape := ⟨0, ![]⟩
abbrev S32768 : Shape := ⟨1, ![32768]⟩
abbrev S32768x1 : Shape := ⟨2, ![32768, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S32768x5632 : Shape := ⟨2, ![32768, 5632]⟩
abbrev S32768x2816 : Shape := ⟨2, ![32768, 2816]⟩

abbrev nBuf : Space → Nat
  | .hbm => 45
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S2x1024, .f32⟩
  | .hbm, ⟨2, _⟩ => ⟨S2x1024x5632, .f32⟩
  | .hbm, ⟨3, _⟩ => ⟨S2x2816x1024, .f32⟩
  | .hbm, ⟨4, _⟩ => ⟨S1024, .f32⟩
  | .hbm, ⟨5, _⟩ => ⟨S1x1024, .f32⟩
  | .hbm, ⟨6, _⟩ => ⟨S1024, .f32⟩
  | .hbm, ⟨7, _⟩ => ⟨S32768x1024, .f32⟩
  | .hbm, ⟨8, _⟩ => ⟨S_, .f32⟩
  | .hbm, ⟨9, _⟩ => ⟨S32768, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x1, .f32⟩
  | .hbm, ⟨18, _⟩ => ⟨S32768x1024, .f32⟩
  | .hbm, ⟨19, _⟩ => ⟨S32768x1024, .f32⟩
  | .hbm, ⟨20, _⟩ => ⟨S1x1024, .f32⟩
  | .hbm, ⟨21, _⟩ => ⟨S32768x1024, .f32⟩
  | .hbm, ⟨22, _⟩ => ⟨S32768x1024, .f32⟩
  | .hbm, ⟨23, _⟩ => ⟨S1x1024x5632, .f32⟩
  | .hbm, ⟨24, _⟩ => ⟨S1024x5632, .f32⟩
  | .hbm, ⟨25, _⟩ => ⟨S1x2816x1024, .f32⟩
  | .hbm, ⟨26, _⟩ => ⟨S2816x1024, .f32⟩
  | .hbm, ⟨27, _⟩ => ⟨S32768x5632, .f32⟩
  | .hbm, ⟨28, _⟩ => ⟨S32768x2816, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S_, .f32⟩
  | .hbm, ⟨33, _⟩ => ⟨S32768x2816, .f32⟩
  | .hbm, ⟨34, _⟩ => ⟨S32768x2816, .f32⟩
  | .hbm, ⟨35, _⟩ => ⟨S_, .f32⟩
  | .hbm, ⟨36, _⟩ => ⟨S32768x2816, .f32⟩
  | .hbm, ⟨37, _⟩ => ⟨S32768x2816, .f32⟩
  | .hbm, ⟨38, _⟩ => ⟨S32768x2816, .f32⟩
  | .hbm, ⟨39, _⟩ => ⟨S32768x2816, .f32⟩
  | .hbm, ⟨40, _⟩ => ⟨S32768x1024, .f32⟩
  | .hbm, ⟨41, _⟩ => ⟨S_, .f32⟩
  | .hbm, ⟨42, _⟩ => ⟨S32768x1024, .f32⟩
  | .hbm, ⟨43, _⟩ => ⟨S32768x1024, .f32⟩
  | .hbm, ⟨44, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_2 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩

abbrev nD : Nat := 1
abbrev τ : Topo := Topo.v7x

variable {F : FTy → Type} [FloatOps F]
-- ==== Proof.Rows.lean ====
module

public import Idealize.ShloMosaic.PureOps.Ideal.Laws
public import Idealize.ShloMosaic.Lib.IdealHost

@[expose] public section
noncomputable section

/-!
# Row arithmetic over the extended reals

The scale of a root mean square norm is a nonnegative real number whatever the row is (an infinite row has scale zero).
A nonnegative real factor moves through sums of extended reals, so a norm's scale may be applied before or after the
projection that follows it.
-/

namespace Cert.Rows

open Idealize.ShloMosaic

/-- The reciprocal root mean square of a row of 1024 entries, with the program's constants. -/
def rms (row : Fin 1024 → EReal) : EReal :=
  Ideal.rsqrt (Ideal.div (∑ j, row j * row j) (Ideal.ofBits .f32 1149239296#32) + Ideal.ofBits .f32 897988541#32)

/-- The literal 1024. -/
theorem lit_1024 : Ideal.ofBits .f32 1149239296#32 = ((1024 : ℝ) : EReal) := by
  simp [Ideal.ofBits, Ideal.ieee, -EReal.coe_mul]; norm_num

/-- The literal 10⁻⁶ is a positive real number. -/
theorem lit_eps : ∃ e : ℝ, 0 < e ∧ Ideal.ofBits .f32 897988541#32 = (e : EReal) := by
  refine ⟨_, ?_, by simp [Ideal.ofBits, Ideal.ieee, -EReal.coe_mul]; rfl⟩
  positivity

/-- A square of an extended real is nonnegative. -/
theorem mul_self_nonneg' (x : EReal) : 0 ≤ x * x := by
  induction x with
  | bot => simp
  | top => simp
  | coe r => rw [← EReal.coe_mul]; exact_mod_cast mul_self_nonneg r

/-- The reciprocal root of a nonnegative number plus a positive real one is a nonnegative real number. -/
theorem rsqrt_real {v : EReal} (hv : 0 ≤ v) {e : ℝ} (he : 0 < e) :
    ∃ s : ℝ, 0 ≤ s ∧ Ideal.rsqrt (v + (e : EReal)) = (s : EReal) := by
  induction v with
  | bot => exact absurd hv (by simp)
  | top => exact ⟨0, le_rfl, by rw [EReal.top_add_coe]; simp⟩
  | coe r =>
    have hr : 0 ≤ r := by exact_mod_cast hv
    refine ⟨(Real.sqrt (r + e))⁻¹, by positivity, ?_⟩
    rw [← EReal.coe_add, Ideal.rsqrt_coe, if_neg (by linarith), if_neg (by linarith)]

/-- The scale of a row is a nonnegative real number. -/
theorem rms_real (row : Fin 1024 → EReal) : ∃ s : ℝ, 0 ≤ s ∧ rms row = (s : EReal) := by
  obtain ⟨e, he, hl⟩ := lit_eps
  have h0 : (0 : EReal) ≤ Ideal.div (∑ j, row j * row j) (Ideal.ofBits .f32 1149239296#32) := by
    rw [lit_1024, Ideal.div_coe (by norm_num)]
    refine mul_nonneg (Finset.sum_nonneg fun j _ => mul_self_nonneg' _) ?_
    exact_mod_cast (by norm_num : (0 : ℝ) ≤ 1 / 1024)
  obtain ⟨s, hs, h⟩ := rsqrt_real h0 he
  exact ⟨s, hs, by rw [rms, hl]; exact h⟩

/-- A nonnegative real factor distributes over a sum of two extended reals. -/
theorem add_mul_real {s : ℝ} (hs : 0 ≤ s) (a b : EReal) : (a + b) * (s : EReal) = a * s + b * s := by
  rw [mul_comm, mul_comm a, mul_comm b]
  exact EReal.left_distrib_of_nonneg_of_ne_top (by exact_mod_cast hs) (EReal.coe_ne_top s) a b

/-- A nonnegative real factor distributes over a finite sum of extended reals. -/
theorem sum_mul_real {ι : Type*} (t : Finset ι) (f : ι → EReal) {s : ℝ} (hs : 0 ≤ s) :
    (∑ i ∈ t, f i) * (s : EReal) = ∑ i ∈ t, f i * s := by
  classical
  induction t using Finset.induction_on with
  | empty => simp
  | insert a t ha ih => rw [Finset.sum_insert ha, Finset.sum_insert ha, add_mul_real hs, ih]

/-- Projecting a normalised row is projecting the row and scaling the result. -/
theorem proj_norm (row g w : Fin 1024 → EReal) :
    ∑ j, row j * rms row * g j * w j = (∑ j, row j * g j * w j) * rms row := by
  obtain ⟨s, hs, h⟩ := rms_real row
  rw [h, sum_mul_real _ _ hs]
  exact Finset.sum_congr rfl fun j _ => by ac_rfl

/-- One projected value of a normalised row, scaled after the projection. -/
def proj (row g w : Fin 1024 → EReal) : EReal := (∑ j, row j * g j * w j) * rms row

/-- The same value, with the row normalised before the projection. -/
theorem proj_eq (row g w : Fin 1024 → EReal) : ∑ j, row j * rms row * g j * w j = proj row g w := proj_norm row g w

/-- A gated unit: `a · sigmoid a · b`. -/
def unit (a b : EReal) : EReal := a * Ideal.logistic a * b

/-- One row of the feed-forward block: the row plus half of the gated units' projection. -/
def ffn (row g : Fin 1024 → EReal) (wi : Fin 1024 → Fin 5632 → EReal) (wo : Fin 2816 → Fin 1024 → EReal)
    (c : Fin 1024) : EReal :=
  row c + Ideal.ofBits .f32 1056964608#32 *
    ∑ k : Fin 2816, unit (proj row g fun j => wi j ⟨k, by omega⟩) (proj row g fun j => wi j ⟨2816 + k, by omega⟩) * wo k c

/-- One row of the feed-forward block followed by the closing norm. -/
def ffnNorm (row g : Fin 1024 → EReal) (wi : Fin 1024 → Fin 5632 → EReal) (wo : Fin 2816 → Fin 1024 → EReal)
    (gf : Fin 1024 → EReal) (c : Fin 1024) : EReal :=
  ffn row g wi wo c * rms (ffn row g wi wo) * gf c

/-- The feed-forward row in the order of the plain mathematics: normalise, scale by the gain, project. -/
def ffnPlain (row g : Fin 1024 → EReal) (wi : Fin 1024 → Fin 5632 → EReal) (wo : Fin 2816 → Fin 1024 → EReal)
    (c : Fin 1024) : EReal :=
  row c + Ideal.ofBits .f32 1056964608#32 *
    ∑ k : Fin 2816, (∑ j, row j * rms row * g j * wi j ⟨k, by omega⟩) *
      Ideal.div 1 (1 + Ideal.exp (-∑ j, row j * rms row * g j * wi j ⟨k, by omega⟩)) *
      (∑ j, row j * rms row * g j * wi j ⟨2816 + k, by omega⟩) * wo k c

/-- Both orders give the same row. -/
theorem ffnPlain_eq (row g : Fin 1024 → EReal) (wi : Fin 1024 → Fin 5632 → EReal) (wo : Fin 2816 → Fin 1024 → EReal) :
    ffnPlain row g wi wo = ffn row g wi wo := by
  funext c
  unfold ffnPlain ffn unit Ideal.logistic
  simp only [fun w => proj_eq row g w]

end Cert.Rows
end
-- ==== Proof.Ffn2Block.lean ====
module

public import proofs.«01_k».proof.Proof.Gen.Kernel2Ideal.Value
public import proofs.«01_k».proof.Proof.Rows
public import Idealize.ShloMosaic.Lib.Tactic
public import Idealize.ShloMosaic.Lib.Pipeline.ValueKit

@[expose] public section
set_option maxRecDepth 16384
noncomputable section

namespace Cert.Kernel2Ideal.Value

open Idealize.ShloMosaic Idealize.ShloMosaic.TcCoe Idealize.SL.Sem
open Cert.Kernel2Ideal Cert.Kernel2Ideal.Gen

/-- Two zero offsets. -/
theorem hz : (![0, 0] : Fin 2 → Nat) = fun _ => 0 := funext fun a => by fin_cases a <;> rfl

/-- One tile of 256 gated units, read at an index. -/
theorem tile_apply (x : FVec Ideal S1024x1024 .f32) (g : FVec Ideal S1x1x1024 .f32) (wa wb : FVec Ideal S1x1024x256 .bf16) (r : Fin 1024) (c : Fin 256) :
    k0_pay4 (F := Ideal) x g wa wb (ix2 r c) =
      Rows.unit (Rows.proj (fun j => x (ix2 r j)) (fun j => g (ix3 0 0 j)) fun j => wa (ix3 0 j c))
        (Rows.proj (fun j => x (ix2 r j)) (fun j => g (ix3 0 0 j)) fun j => wb (ix3 0 j c)) := by
  pointwise [k0_pay4, k0_pay2, k0_pay3]
  rfl

/-- The block's last step, read at an index. -/
theorem close_apply (x : FVec Ideal S1024x1024 .f32) (g : FVec Ideal S1x1x1024 .f32) (h : FVec Ideal S1024x2816 .bf16) (w : FVec Ideal S1x2816x1024 .bf16) (r : Fin 1024) (c : Fin 1024) :
    k0_pay1 (F := Ideal) (k0_pay22 (F := Ideal) x h w) (k0_pay23 (F := Ideal) g) (k0_pay24 (F := Ideal) x h w) (ix2 r c) =
      (x (ix2 r c) + Ideal.ofBits .f32 1056964608#32 * ∑ k : Fin 2816, h (ix2 r k) * w (ix3 0 k c)) *
        Rows.rms (fun c => x (ix2 r c) + Ideal.ofBits .f32 1056964608#32 * ∑ k : Fin 2816, h (ix2 r k) * w (ix3 0 k c)) * g (ix3 0 0 c) := by
  pointwise [k0_pay1, k0_pay22, k0_pay23, k0_pay24]
  rfl

/-- The block that a grid point writes back is the layer's row function of the blocks it reads. -/
theorem out_A (c : Dev nD) (i : grid0.Coords) (arg1 : Memref sig .tc .vmem S1024x1024 .f32) (harg1 : arg1.IsWhole) (arg2 : Memref sig .tc .vmem S1x1x1024 .f32) (harg2 : arg2.IsWhole) (arg3 : Memref sig .tc .vmem S1x1024x5632 .bf16) (harg3 : arg3.IsWhole) (arg4 : Memref sig .tc .vmem S1x2816x1024 .bf16) (harg4 : arg4.IsWhole) (arg5 : Memref sig .tc .vmem S1x1x1024 .f32) (harg5 : arg5.IsWhole) (arg6 : Memref sig .tc .vmem S1024x1024 .f32) (harg6 : arg6.IsWhole) (arg7 : Memref sig .tc .vmem S1024x2816 .bf16) (harg7 : arg7.IsWhole)
    (x0 : Vec Ideal S1024x1024 .f32) (x1 : Vec Ideal S1x1x1024 .f32) (x2 : Vec Ideal S1x1024x5632 .bf16) (x3 : Vec Ideal S1x2816x1024 .bf16) (x4 : Vec Ideal S1x1x1024 .f32) (r : Fin 1024) (q : Fin 1024) :
    out0_A_5 (F := Ideal) c i arg1 harg1 arg2 harg2 arg3 harg3 arg4 harg4 arg5 harg5 arg6 harg6 arg7 harg7 x0 x1 x2 x3 x4 (ix2 r q) =
      Rows.ffnNorm (fun j => x0 (ix2 r j)) (fun j => x1 (ix3 0 0 j)) (fun j k => x2 (ix3 0 j k)) (fun k j => x3 (ix3 0 k j)) (fun j => x4 (ix3 0 0 j)) q := by
  unfold out0_A_5
  rw [View.read_writes_eq_canon _ _ _ (cover0_A_5 c i arg1 harg1 arg2 harg2 arg3 harg3 arg4 harg4 arg5 harg5 arg6 harg6 arg7 harg7 x0 x1 x2 x3 x4)]
  unfold kernelRun0_A
  dsimp only
  sl_unfold_words
  rw [View.canon_unit_zero (S := S1024x1024) hz]
  simp only [View.readAt_eq_ld, harg1.read_unread, harg2.read_unread, harg3.read_unread, harg4.read_unread, harg5.read_unread, View.ld_unit_zero (S := S1024x1024) hz, shapeCast_self]
  refine (close_apply _ _ _ _ r q).trans ?_
  rw [View.readCov_eq_canon']
  generalize hH : View.canon (Val := Elt Ideal) (s := S1024x2816) (e := .bf16) _ = H
  have key : ∀ k : Fin 2816, H (ix2 r k) = Rows.unit (Rows.proj (fun j => x0 (ix2 r j)) (fun j => x1 (ix3 0 0 j)) fun j => x2 (ix3 0 j ⟨k, by omega⟩))
      (Rows.proj (fun j => x0 (ix2 r j)) (fun j => x1 (ix3 0 0 j)) fun j => x2 (ix3 0 j ⟨2816 + k, by omega⟩)) := by
    intro k
    rw [← hH]
    clear hH
    canon_tiles x h
    all_goals (idx_vars x)
    all_goals (unfold Rows.unit Rows.proj Rows.rms)
    all_goals (pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]; blk_point [])
  clear hH
  unfold Rows.ffnNorm Rows.ffn
  pointwise
  simp only [key]

end Cert.Kernel2Ideal.Value
end
-- ==== Proof.Ffn2Run.lean ====
module

public import proofs.«01_k».proof.Proof.Ffn2Block

@[expose] public section
set_option maxRecDepth 16384
noncomputable section

namespace Cert.Kernel2Ideal.Value

open Idealize.ShloMosaic Idealize.ShloMosaic.TcCoe Idealize.SL.Sem
open Cert.Kernel2Ideal Cert.Kernel2Ideal.Gen

variable (m : (ℓ : Loc nD τ sig) → Buf (Elt Ideal) ℓ) (ρ : Dev nD → PrngReg)

/-- The result array, as a function of the arguments. -/
def result (c : Dev nD) : S32768x1024.Idx → EReal := fun i =>
  Rows.ffnNorm (fun j => m ((c : Thread nD τ).loc main_arg0) (ix2 (i 0) j)) (fun j => m ((c : Thread nD τ).loc main_arg1) (ix2 1 j))
    (fun j k => m ((c : Thread nD τ).loc main_arg2) (ix3 1 j k)) (fun k j => m ((c : Thread nD τ).loc main_arg3) (ix3 1 k j))
    (fun j => m ((c : Thread nD τ).loc main_arg4) (ix1 j)) (i 1)

/-- The block index of operand 0 at a grid point. -/
theorem idx0 : ∀ t : Fin grid0.N, win0_0.index t = ![t.val, 0] := by decide +kernel
/-- The block index of operand 1 at a grid point. -/
theorem idx1 : ∀ t : Fin grid0.N, win0_1.index t = ![1, 0, 0] := by decide +kernel
/-- The block index of operand 2 at a grid point. -/
theorem idx2 : ∀ t : Fin grid0.N, win0_2.index t = ![1, 0, 0] := by decide +kernel
/-- The block index of operand 3 at a grid point. -/
theorem idx3 : ∀ t : Fin grid0.N, win0_3.index t = ![1, 0, 0] := by decide +kernel
/-- The block index of operand 4 at a grid point. -/
theorem idx4 : ∀ t : Fin grid0.N, win0_4.index t = ![0, 0, 0] := by decide +kernel
/-- The block index of operand 5 at a grid point. -/
theorem idx5 : ∀ t : Fin grid0.N, win0_5.index t = ![t.val, 0] := by decide +kernel

/-- Operand 0's block at a grid point is this part of the argument. -/
theorem rd0 (c : Dev nD) (t : Fin cfg0.N) (r j : Fin 1024) (R : Fin 32768) (hR : R.val = t.val * 1024 + r.val) :
    iblk m c 0 t (ix2 r j) = m ((c : Thread nD τ).loc main_arg0) (ix2 R j) := by
  blk_ext! [iblk, V, idx0 t]

/-- Operand 1's block at a grid point is this part of the argument. -/
theorem rd1 (c : Dev nD) (t : Fin cfg0.N) (j : Fin 1024) :
    iblk m c 1 t (ix3 0 0 j) = m ((c : Thread nD τ).loc main_arg1) (ix2 1 j) := by
  blk_ext! [iblk, V, idx1 t]

/-- Operand 2's block at a grid point is this part of the argument. -/
theorem rd2 (c : Dev nD) (t : Fin cfg0.N) (j : Fin 1024) (k : Fin 5632) :
    iblk m c 2 t (ix3 0 j k) = m ((c : Thread nD τ).loc main_arg2) (ix3 1 j k) := by
  blk_ext! [iblk, V, idx2 t]

/-- Operand 3's block at a grid point is this part of the argument. -/
theorem rd3 (c : Dev nD) (t : Fin cfg0.N) (j : Fin 1024) (k : Fin 2816) :
    iblk m c 3 t (ix3 0 k j) = m ((c : Thread nD τ).loc main_arg3) (ix3 1 k j) := by
  blk_ext! [iblk, V, idx3 t]

/-- Operand 4's block at a grid point is this part of the argument. -/
theorem rd4 (c : Dev nD) (t : Fin cfg0.N) (j : Fin 1024) :
    iblk m c 4 t (ix3 0 0 j) = m ((c : Thread nD τ).loc main_arg4) (ix1 j) := by
  blk_ext! [iblk, V, idx4 t]

/-- The array that the run leaves is the layer's function of the arguments. -/
theorem final (c : Dev nD) : (dats m 0 c).arrAt 5 cfg0.N = result m c := by
  refine (dats m 0 c).arrAt_eq_of_covers 5 _ (by decide +kernel) fun t hf y => ?_
  blk_simp
  rw [after0_5]
  unfold outsAt0
  idx_vars y
  rw [out_A]
  have h0 : (((cfg0.win 5).blk t).view.emb (ix2 y0 y1) 0 : ℕ) = t.val * 1024 + y0.val := by
    blk_simp [idx5 t]
  have h1 : ((cfg0.win 5).blk t).view.emb (ix2 y0 y1) 1 = y1 := by
    apply Fin.ext
    blk_simp [idx5 t]
  simp only [rd0 m c t _ _ _ h0, rd1, rd2, rd3, rd4]
  unfold result
  rw [h1]
end Cert.Kernel2Ideal.Value
end
-- ==== Proof.Ffn2Ref.lean ====
module

public import proofs.«01_k».proof.Proof.Gen.Reference2Ideal.Run
public import proofs.«01_k».proof.Proof.Rows
public import Idealize.ShloMosaic.Lib.Pointwise
public import Idealize.ShloMosaic.Lib.Pipeline.ValueKit

@[expose] public section
set_option maxRecDepth 16384
noncomputable section

namespace Cert.Reference2Ideal.Value

open Idealize.ShloMosaic Idealize.ShloMosaic.TcCoe Idealize.SL.Sem
open Cert.Reference2Ideal

variable (m : (ℓ : Loc nD τ sig) → Buf (Elt Ideal) ℓ)

/-- The reference's result, as the layer's function of the arguments. -/
theorem result_eq (c : Dev nD) (R : Fin 32768) (q : Fin 1024) : res_main_v40 m c (ix2 R q) =
  Rows.ffnNorm (fun j => m ((c.tc : Thread nD τ).loc main_arg0) (ix2 R j)) (fun j => m ((c.tc : Thread nD τ).loc main_arg1) (ix2 1 j))
    (fun j k => m ((c.tc : Thread nD τ).loc main_arg2) (ix3 1 j k)) (fun k j => m ((c.tc : Thread nD τ).loc main_arg3) (ix3 1 k j))
    (fun j => m ((c.tc : Thread nD τ).loc main_arg4) (ix1 j)) q := by
  unfold res_main_v40
  pointwise
  rw [Rows.ffnNorm, ← Rows.ffnPlain_eq]
  rfl
end Cert.Reference2Ideal.Value
end
-- ==== Proof.Ffn2.lean ====
module

public import proofs.«01_k».proof.Defs
public import proofs.«01_k».proof.Proof.Ffn2Run
public import proofs.«01_k».proof.Proof.Ffn2Ref

@[expose] public section
noncomputable section

namespace Cert.Proof

open Idealize.ShloMosaic Idealize.SL.Sem

/-- From memories with the same arguments the feed-forward kernel and its reference leave the same array. -/
theorem ffn2 : Cert.algebraic_Kernel2Ideal_Reference2Ideal := by
  intro m g m' g' _ hagree
  refine ⟨fun c => Cert.Kernel2Ideal.Value.result m c, ?_, ?_⟩
  · exact (θ_run _ _ _).mono (fun r h c => ⟨(h c).1.trans (Cert.Kernel2Ideal.Value.final m c), (h c).2⟩)
      (Cert.Kernel2Ideal.Value.run_blocks m g)
  · refine (θ_run _ _ _).mono (fun r h c => ⟨(h c).1.trans ?_, (h c).2⟩) (Cert.Reference2Ideal.Value.run m' g')
    obtain ⟨h0, h1, h2, h3, h4⟩ := hagree c
    funext i
    idx_vars i
    refine (Cert.Reference2Ideal.Value.result_eq m' c i0 i1).trans ?_
    unfold Cert.Kernel2Ideal.Value.result
    rw [h0, h1, h2, h3, h4]
    rfl

end Cert.Proof
end
-- ==== Proof.Ffn3Block.lean ====
module

public import proofs.«01_k».proof.Proof.Gen.Kernel3Ideal.Value
public import proofs.«01_k».proof.Proof.Rows
public import Idealize.ShloMosaic.Lib.Tactic
public import Idealize.ShloMosaic.Lib.Pipeline.ValueKit

@[expose] public section
set_option maxRecDepth 16384
noncomputable section

namespace Cert.Kernel3Ideal.Value

open Idealize.ShloMosaic Idealize.ShloMosaic.TcCoe Idealize.SL.Sem
open Cert.Kernel3Ideal Cert.Kernel3Ideal.Gen

/-- Two zero offsets. -/
theorem hz : (![0, 0] : Fin 2 → Nat) = fun _ => 0 := funext fun a => by fin_cases a <;> rfl

/-- One tile of 256 gated units, read at an index. -/
theorem tile_apply (x : FVec Ideal S1024x1024 .f32) (g : FVec Ideal S1x1x1024 .f32) (wa wb : FVec Ideal S1x1024x256 .bf16) (r : Fin 1024) (c : Fin 256) :
    k0_pay6 (F := Ideal) x g wa wb (ix2 r c) =
      Rows.unit (Rows.proj (fun j => x (ix2 r j)) (fun j => g (ix3 0 0 j)) fun j => wa (ix3 0 j c))
        (Rows.proj (fun j => x (ix2 r j)) (fun j => g (ix3 0 0 j)) fun j => wb (ix3 0 j c)) := by
  pointwise [k0_pay6, k0_pay4, k0_pay5]
  rfl

/-- The block's last step, read at an index. -/
theorem close_apply (x : FVec Ideal S1024x1024 .f32) (h : FVec Ideal S1024x2816 .bf16) (w : FVec Ideal S1x2816x1024 .bf16) (r : Fin 1024) (c : Fin 1024) :
    k0_pay3 (F := Ideal) x h w (ix2 r c) =
      x (ix2 r c) + Ideal.ofBits .f32 1056964608#32 * ∑ k : Fin 2816, h (ix2 r k) * w (ix3 0 k c) := by
  pointwise [k0_pay3]

/-- The block that a grid point writes back is the layer's row function of the blocks it reads. -/
theorem out_A (c : Dev nD) (i : grid0.Coords) (arg1 : Memref sig .tc .vmem S1024x1024 .f32) (harg1 : arg1.IsWhole) (arg2 : Memref sig .tc .vmem S1x1x1024 .f32) (harg2 : arg2.IsWhole) (arg3 : Memref sig .tc .vmem S1x1024x5632 .bf16) (harg3 : arg3.IsWhole) (arg4 : Memref sig .tc .vmem S1x2816x1024 .bf16) (harg4 : arg4.IsWhole) (arg5 : Memref sig .tc .vmem S1x1x1024 .f32) (harg5 : arg5.IsWhole) (arg6 : Memref sig .tc .vmem S1024x1024 .f32) (harg6 : arg6.IsWhole) (arg7 : Memref sig .tc .vmem S1024x2816 .bf16) (harg7 : arg7.IsWhole)
    (x0 : Vec Ideal S1024x1024 .f32) (x1 : Vec Ideal S1x1x1024 .f32) (x2 : Vec Ideal S1x1024x5632 .bf16) (x3 : Vec Ideal S1x2816x1024 .bf16) (x4 : Vec Ideal S1x1x1024 .f32) (r : Fin 1024) (q : Fin 1024) :
    out0_A_5 (F := Ideal) c i arg1 harg1 arg2 harg2 arg3 harg3 arg4 harg4 arg5 harg5 arg6 harg6 arg7 harg7 x0 x1 x2 x3 x4 (ix2 r q) =
      Rows.ffn (fun j => x0 (ix2 r j)) (fun j => x1 (ix3 0 0 j)) (fun j k => x2 (ix3 0 j k)) (fun k j => x3 (ix3 0 k j)) q := by
  unfold out0_A_5
  rw [View.read_writes_eq_canon _ _ _ (cover0_A_5 c i arg1 harg1 arg2 harg2 arg3 harg3 arg4 harg4 arg5 harg5 arg6 harg6 arg7 harg7 x0 x1 x2 x3 x4)]
  unfold kernelRun0_A
  dsimp only
  sl_unfold_words
  rw [View.canon_unit_zero (S := S1024x1024) hz]
  simp only [View.readAt_eq_ld, harg1.read_unread, harg2.read_unread, harg3.read_unread, harg4.read_unread, harg5.read_unread, View.ld_unit_zero (S := S1024x1024) hz, shapeCast_self]
  refine (close_apply _ _ _ r q).trans ?_
  rw [View.readCov_eq_canon']
  generalize hH : View.canon (Val := Elt Ideal) (s := S1024x2816) (e := .bf16) _ = H
  have key : ∀ k : Fin 2816, H (ix2 r k) = Rows.unit (Rows.proj (fun j => x0 (ix2 r j)) (fun j => x1 (ix3 0 0 j)) fun j => x2 (ix3 0 j ⟨k, by omega⟩))
      (Rows.proj (fun j => x0 (ix2 r j)) (fun j => x1 (ix3 0 0 j)) fun j => x2 (ix3 0 j ⟨2816 + k, by omega⟩)) := by
    intro k
    rw [← hH]
    clear hH
    canon_tiles x h
    all_goals (idx_vars x)
    all_goals (unfold Rows.unit Rows.proj Rows.rms)
    all_goals (pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21]; blk_point [])
  clear hH
  unfold Rows.ffn
  pointwise
  simp only [key]

end Cert.Kernel3Ideal.Value
end
-- ==== Proof.Ffn3Run.lean ====
module

public import proofs.«01_k».proof.Proof.Ffn3Block

@[expose] public section
set_option maxRecDepth 16384
noncomputable section

namespace Cert.Kernel3Ideal.Value

open Idealize.ShloMosaic Idealize.ShloMosaic.TcCoe Idealize.SL.Sem
open Cert.Kernel3Ideal Cert.Kernel3Ideal.Gen

variable (m : (ℓ : Loc nD τ sig) → Buf (Elt Ideal) ℓ) (ρ : Dev nD → PrngReg)

/-- The result array, as a function of the arguments. -/
def result (c : Dev nD) : S32768x1024.Idx → EReal := fun i =>
  Rows.ffn (fun j => m ((c : Thread nD τ).loc main_arg0) (ix2 (i 0) j)) (fun j => m ((c : Thread nD τ).loc main_arg1) (ix2 0 j))
    (fun j k => m ((c : Thread nD τ).loc main_arg2) (ix3 0 j k)) (fun k j => m ((c : Thread nD τ).loc main_arg3) (ix3 0 k j)) (i 1)

/-- The block index of operand 0 at a grid point. -/
theorem idx0 : ∀ t : Fin grid0.N, win0_0.index t = ![t.val, 0] := by decide +kernel
/-- The block index of operand 1 at a grid point. -/
theorem idx1 : ∀ t : Fin grid0.N, win0_1.index t = ![0, 0, 0] := by decide +kernel
/-- The block index of operand 2 at a grid point. -/
theorem idx2 : ∀ t : Fin grid0.N, win0_2.index t = ![0, 0, 0] := by decide +kernel
/-- The block index of operand 3 at a grid point. -/
theorem idx3 : ∀ t : Fin grid0.N, win0_3.index t = ![0, 0, 0] := by decide +kernel
/-- The block index of operand 4 at a grid point. -/
theorem idx4 : ∀ t : Fin grid0.N, win0_4.index t = ![0, 0, 0] := by decide +kernel
/-- The block index of operand 5 at a grid point. -/
theorem idx5 : ∀ t : Fin grid0.N, win0_5.index t = ![t.val, 0] := by decide +kernel

/-- Operand 0's block at a grid point is this part of the argument. -/
theorem rd0 (c : Dev nD) (t : Fin cfg0.N) (r j : Fin 1024) (R : Fin 32768) (hR : R.val = t.val * 1024 + r.val) :
    iblk m c 0 t (ix2 r j) = m ((c : Thread nD τ).loc main_arg0) (ix2 R j) := by
  blk_ext! [iblk, V, idx0 t]

/-- Operand 1's block at a grid point is this part of the argument. -/
theorem rd1 (c : Dev nD) (t : Fin cfg0.N) (j : Fin 1024) :
    iblk m c 1 t (ix3 0 0 j) = m ((c : Thread nD τ).loc main_arg1) (ix2 0 j) := by
  blk_ext! [iblk, V, idx1 t]

/-- Operand 2's block at a grid point is this part of the argument. -/
theorem rd2 (c : Dev nD) (t : Fin cfg0.N) (j : Fin 1024) (k : Fin 5632) :
    iblk m c 2 t (ix3 0 j k) = m ((c : Thread nD τ).loc main_arg2) (ix3 0 j k) := by
  blk_ext! [iblk, V, idx2 t]

/-- Operand 3's block at a grid point is this part of the argument. -/
theorem rd3 (c : Dev nD) (t : Fin cfg0.N) (j : Fin 1024) (k : Fin 2816) :
    iblk m c 3 t (ix3 0 k j) = m ((c : Thread nD τ).loc main_arg3) (ix3 0 k j) := by
  blk_ext! [iblk, V, idx3 t]

/-- The array that the run leaves is the layer's function of the arguments. -/
theorem final (c : Dev nD) : (dats m 0 c).arrAt 5 cfg0.N = result m c := by
  refine (dats m 0 c).arrAt_eq_of_covers 5 _ (by decide +kernel) fun t hf y => ?_
  blk_simp
  rw [after0_5]
  unfold outsAt0
  idx_vars y
  rw [out_A]
  have h0 : (((cfg0.win 5).blk t).view.emb (ix2 y0 y1) 0 : ℕ) = t.val * 1024 + y0.val := by
    blk_simp [idx5 t]
  have h1 : ((cfg0.win 5).blk t).view.emb (ix2 y0 y1) 1 = y1 := by
    apply Fin.ext
    blk_simp [idx5 t]
  simp only [rd0 m c t _ _ _ h0, rd1, rd2, rd3]
  unfold result
  rw [h1]
end Cert.Kernel3Ideal.Value
end
-- ==== Proof.Ffn3Ref.lean ====
module

public import proofs.«01_k».proof.Proof.Gen.Reference3Ideal.Run
public import proofs.«01_k».proof.Proof.Rows
public import Idealize.ShloMosaic.Lib.Pointwise
public import Idealize.ShloMosaic.Lib.Pipeline.ValueKit

@[expose] public section
set_option maxRecDepth 16384
noncomputable section

namespace Cert.Reference3Ideal.Value

open Idealize.ShloMosaic Idealize.ShloMosaic.TcCoe Idealize.SL.Sem
open Cert.Reference3Ideal

variable (m : (ℓ : Loc nD τ sig) → Buf (Elt Ideal) ℓ)

/-- The reference's result, as the layer's function of the arguments. -/
theorem result_eq (c : Dev nD) (R : Fin 32768) (q : Fin 1024) : res_main_v27 m c (ix2 R q) =
  Rows.ffn (fun j => m ((c.tc : Thread nD τ).loc main_arg0) (ix2 R j)) (fun j => m ((c.tc : Thread nD τ).loc main_arg1) (ix2 0 j))
    (fun j k => m ((c.tc : Thread nD τ).loc main_arg2) (ix3 0 j k)) (fun k j => m ((c.tc : Thread nD τ).loc main_arg3) (ix3 0 k j)) q := by
  unfold res_main_v27
  pointwise
  rw [← Rows.ffnPlain_eq]
  rfl
end Cert.Reference3Ideal.Value
end
-- ==== Proof.Ffn3.lean ====
module

public import proofs.«01_k».proof.Defs
public import proofs.«01_k».proof.Proof.Ffn3Run
public import proofs.«01_k».proof.Proof.Ffn3Ref

@[expose] public section
noncomputable section

namespace Cert.Proof

open Idealize.ShloMosaic Idealize.SL.Sem

/-- From memories with the same arguments the feed-forward kernel and its reference leave the same array. -/
theorem ffn3 : Cert.algebraic_Kernel3Ideal_Reference3Ideal := by
  intro m g m' g' _ hagree
  refine ⟨fun c => Cert.Kernel3Ideal.Value.result m c, ?_, ?_⟩
  · exact (θ_run _ _ _).mono (fun r h c => ⟨(h c).1.trans (Cert.Kernel3Ideal.Value.final m c), (h c).2⟩)
      (Cert.Kernel3Ideal.Value.run_blocks m g)
  · refine (θ_run _ _ _).mono (fun r h c => ⟨(h c).1.trans ?_, (h c).2⟩) (Cert.Reference3Ideal.Value.run m' g')
    obtain ⟨h0, h1, h2, h3, h4⟩ := hagree c
    funext i
    idx_vars i
    refine (Cert.Reference3Ideal.Value.result_eq m' c i0 i1).trans ?_
    unfold Cert.Kernel3Ideal.Value.result
    rw [h0, h1, h2, h3]
    rfl

end Cert.Proof
end
-- ==== Proof.MixReal.lean ====
module

public import Mathlib.Analysis.SpecialFunctions.Trigonometric.Basic
public import Mathlib.Analysis.SpecialFunctions.Exp

@[expose] public section
noncomputable section

/-!
# Decayed sums of real sequences

A decayed sum over all positions splits at a chunk: the positions in front of it enter through one state, those behind
it through another, and both states follow from their neighbours by one decay and one summary.
-/

namespace Cert.MixReal

open Finset

/-- The decayed sum of the terms in front of position `N`. -/
def fw (l : ℝ) (a : ℕ → ℝ) (N : ℕ) : ℝ := ∑ m ∈ range N, Real.exp (l * ((N : ℝ) - 1 - m)) * a m

/-- The decayed sum of the terms from position `N` to the end `S`. -/
def bw (l : ℝ) (a : ℕ → ℝ) (S N : ℕ) : ℝ := ∑ m ∈ range (S - N), Real.exp (l * m) * a (N + m)

/-- A stretch's summary for the forward state. -/
def kf (l : ℝ) (a : ℕ → ℝ) (L N : ℕ) : ℝ := ∑ r ∈ range L, Real.exp (l * ((L : ℝ) - 1 - r)) * a (N + r)

/-- A stretch's summary for the backward state. -/
def kb (l : ℝ) (a : ℕ → ℝ) (L N : ℕ) : ℝ := ∑ r ∈ range L, Real.exp (l * r) * a (N + r)

/-- The forward state starts at zero. -/
theorem fw_zero (l : ℝ) (a : ℕ → ℝ) : fw l a 0 = 0 := by simp [fw]

/-- The backward state ends at zero. -/
theorem bw_end (l : ℝ) (a : ℕ → ℝ) (S : ℕ) : bw l a S S = 0 := by simp [bw]

/-- The forward state after a stretch: the state before it decayed, plus the stretch's summary. -/
theorem fw_add (l : ℝ) (a : ℕ → ℝ) (N L : ℕ) :
    fw l a (N + L) = Real.exp (l * L) * fw l a N + kf l a L N := by
  unfold fw kf
  rw [sum_range_add, mul_sum]
  refine congrArg₂ (· + ·) (sum_congr rfl fun m _ => ?_) (sum_congr rfl fun m _ => ?_)
  · rw [← mul_assoc, ← Real.exp_add]; congr 2; push_cast; ring
  · congr 2; push_cast; ring

/-- The backward state in front of a stretch: the state behind it decayed, plus the stretch's summary. -/
theorem bw_add (l : ℝ) (a : ℕ → ℝ) (S N L : ℕ) (h : N + L ≤ S) :
    bw l a S N = Real.exp (l * L) * bw l a S (N + L) + kb l a L N := by
  unfold bw kb
  rw [show S - N = L + (S - (N + L)) by omega, sum_range_add, mul_sum, add_comm]
  refine congrArg₂ (· + ·) (sum_congr rfl fun m _ => ?_) rfl
  rw [← mul_assoc, ← Real.exp_add, add_assoc]; congr 2; push_cast; ring

/-- The decay between two positions. -/
def dec (lf lb : ℝ) (n m : ℕ) : ℝ :=
  if m ≤ n then Real.exp (lf * ((n : ℝ) - m)) else Real.exp (lb * ((m : ℝ) - n))

/-- A decayed sum over all positions, split at a chunk of `L` positions from `N` on. -/
theorem split (lf lb : ℝ) (a : ℕ → ℝ) (S N L r : ℕ) (hr : r < L) (h : N + L ≤ S) :
    ∑ m ∈ range S, dec lf lb (N + r) m * a m =
      (∑ j ∈ range L, dec lf lb r j * a (N + j)) +
        (Real.exp (lf * (r + 1)) * fw lf a N + Real.exp (lb * ((L : ℝ) - r)) * bw lb a S (N + L)) := by
  unfold fw bw
  rw [show S = N + (L + (S - (N + L))) by omega, sum_range_add, sum_range_add, mul_sum, mul_sum,
    show N + (L + (S - (N + L))) - (N + L) = S - (N + L) by omega]
  have e1 : ∑ m ∈ range N, dec lf lb (N + r) m * a m =
      ∑ m ∈ range N, Real.exp (lf * (r + 1)) * (Real.exp (lf * ((N : ℝ) - 1 - m)) * a m) := by
    refine sum_congr rfl fun m hm => ?_
    have := mem_range.mp hm
    rw [dec, if_pos (by omega), ← mul_assoc, ← Real.exp_add]; congr 2; push_cast; ring
  have e2 : ∑ j ∈ range L, dec lf lb (N + r) (N + j) * a (N + j) = ∑ j ∈ range L, dec lf lb r j * a (N + j) := by
    refine sum_congr rfl fun m hm => ?_
    unfold dec
    by_cases hc : m ≤ r
    · rw [if_pos (by omega), if_pos hc]; congr 3; push_cast; ring
    · rw [if_neg (by omega), if_neg hc]; congr 3; push_cast; ring
  have e3 : ∑ x ∈ range (S - (N + L)), dec lf lb (N + r) (N + (L + x)) * a (N + (L + x)) =
      ∑ m ∈ range (S - (N + L)), Real.exp (lb * ((L : ℝ) - r)) * (Real.exp (lb * m) * a (N + L + m)) := by
    refine sum_congr rfl fun m hm => ?_
    rw [dec, if_neg (by omega), ← mul_assoc, ← Real.exp_add, ← add_assoc]; congr 2; push_cast; ring
  rw [e1, e2, e3]; ring

/-- The retention of a query: its decayed scores with all positions, applied to the values. -/
def ret (lf lb : ℝ) (S : ℕ) (q : Fin 128 → ℝ) (k : ℕ → Fin 128 → ℝ) (v : ℕ → ℝ) (n : ℕ) : ℝ :=
  ∑ m ∈ range S, (∑ d, q d * k m d) * dec lf lb n m * v m

/-- The retention from a chunk's scores and the two states of every dimension. -/
theorem ret_chunk (lf lb : ℝ) (S N L r : ℕ) (hr : r < L) (h : N + L ≤ S) (q : Fin 128 → ℝ) (k : ℕ → Fin 128 → ℝ)
    (v : ℕ → ℝ) :
    (∑ j ∈ range L, (∑ d, q d * k (N + j) d) * dec lf lb r j * v (N + j)) +
      ((∑ d, q d * Real.exp (lf * (r + 1)) * fw lf (fun m => k m d * v m) N) +
        ∑ d, q d * Real.exp (lb * ((L : ℝ) - r)) * bw lb (fun m => k m d * v m) S (N + L)) =
      ret lf lb S q k v (N + r) := by
  have hs : ∀ d, q d * ∑ m ∈ range S, dec lf lb (N + r) m * (k m d * v m) = _ :=
    fun d => congrArg (q d * ·) (split lf lb (fun m => k m d * v m) S N L r hr h)
  have e : ret lf lb S q k v (N + r) = ∑ d, q d * ∑ m ∈ range S, dec lf lb (N + r) m * (k m d * v m) := by
    unfold ret
    simp only [sum_mul, mul_sum]
    rw [sum_comm]
    exact sum_congr rfl fun d _ => sum_congr rfl fun m _ => by ring
  have e' : ∑ j ∈ range L, (∑ d, q d * k (N + j) d) * dec lf lb r j * v (N + j) =
      ∑ d, q d * ∑ j ∈ range L, dec lf lb r j * (k (N + j) d * v (N + j)) := by
    simp only [sum_mul, mul_sum]
    rw [sum_comm]
    exact sum_congr rfl fun d _ => sum_congr rfl fun m _ => by ring
  rw [e, e', sum_congr rfl fun d _ => hs d, ← sum_add_distrib, ← sum_add_distrib]
  exact sum_congr rfl fun d _ => by ring

/-- The retention as the sum of a forward and a backward part, each with its own mask. -/
theorem ret_parts (lf lb : ℝ) (S : ℕ) (q : Fin 128 → ℝ) (k : ℕ → Fin 128 → ℝ) (v : ℕ → ℝ) (n : ℕ) :
    (∑ m ∈ range S, (∑ d, q d * k m d) * (if m ≤ n then Real.exp (lf * ((n : ℝ) - m)) else 0) * v m) +
      (∑ m ∈ range S, (∑ d, q d * k m d) * (if n < m then Real.exp (lb * ((m : ℝ) - n)) else 0) * v m) =
      ret lf lb S q k v n := by
  unfold ret dec
  rw [← sum_add_distrib]
  refine sum_congr rfl fun m _ => ?_
  by_cases h : m ≤ n
  · rw [if_pos h, if_neg (by omega), if_pos h]; ring
  · rw [if_neg h, if_pos (by omega), if_neg h]; ring

/-- The place of a dimension when the even dimensions are put in front of the odd ones. -/
def perm (d : Fin 128) : Fin 128 := ⟨2 * (d.val % 64) + d.val / 64, by omega⟩

/-- Every dimension has one place. -/
theorem perm_bijective : Function.Bijective perm := by decide +kernel

/-- The retention does not depend on the order of the dimensions. -/
theorem ret_perm (lf lb : ℝ) (S : ℕ) (q : Fin 128 → ℝ) (k : ℕ → Fin 128 → ℝ) (v : ℕ → ℝ) (n : ℕ) :
    ret lf lb S (fun d => q (perm d)) (fun m d => k m (perm d)) v n = ret lf lb S q k v n := by
  unfold ret
  refine sum_congr rfl fun m _ => ?_
  rw [perm_bijective.sum_comp (fun d => q d * k m d)]

end Cert.MixReal
end
-- ==== Proof.MixSpec.lean ====
module

public import proofs.«01_k».proof.Proof.Rows
public import proofs.«01_k».proof.Proof.MixReal
public import Idealize.ShloMosaic.Lib.IdealHost
public import Idealize.ShloMosaic.Lib.Tactic

@[expose] public section
noncomputable section

/-!
# Real numbers in the mixer

The numbers of the mixer that are real: literals, positions, frequencies, decays and projections with finite columns.
-/

namespace Cert.MixSpec

open Idealize.ShloMosaic

/-- A sum of real numbers, as extended reals, is the real sum. -/
theorem coe_sum {ι : Type*} (t : Finset ι) (f : ι → ℝ) : ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- A small position as the program has it. -/
theorem pos_real (n : ℕ) (h : n < 2147483648) : FloatOps.sitofp (F := Ideal) .f32 (BitVec.ofNat 32 n) = ((n : ℝ) : EReal) := by
  show (((BitVec.ofNat 32 n).toInt : ℝ) : EReal) = _
  have hn : (BitVec.ofNat 32 n).toNat = n := by rw [BitVec.toNat_ofNat]; exact Nat.mod_eq_of_lt (by omega)
  have : (BitVec.ofNat 32 n).toInt = (n : ℤ) := by
    rw [BitVec.toInt_eq_toNat_of_lt (by omega), hn]
  rw [this]; simp

/-- The literal 10000. -/
theorem lit_1e4 : Ideal.ofBits .f32 1176256512#32 = ((10000 : ℝ) : EReal) := by
  simp [Ideal.ofBits, Ideal.ieee, -EReal.coe_mul]; norm_num
/-- The literal 63. -/
theorem lit_63 : Ideal.ofBits .f32 1115422720#32 = ((63 : ℝ) : EReal) := by
  simp [Ideal.ofBits, Ideal.ieee, -EReal.coe_mul]; norm_num
/-- The literal 256. -/
theorem lit_256 : Ideal.ofBits .f32 0x43800000#32 = ((256 : ℝ) : EReal) := by
  simp [Ideal.ofBits, Ideal.ieee, -EReal.coe_mul]; norm_num
/-- The literal 255. -/
theorem lit_255 : Ideal.ofBits .f32 0x437F0000#32 = ((255 : ℝ) : EReal) := by
  simp [Ideal.ofBits, Ideal.ieee, -EReal.coe_mul]; norm_num
/-- The literal 1023. -/
theorem lit_1023 : Ideal.ofBits .f32 0x447FC000#32 = ((1023 : ℝ) : EReal) := by
  simp [Ideal.ofBits, Ideal.ieee, -EReal.coe_mul]; norm_num
/-- The literal 1024. -/
theorem lit_1024 : Ideal.ofBits .f32 0x44800000#32 = ((1024 : ℝ) : EReal) := Rows.lit_1024
/-- The keys' factor is a real number. -/
theorem lit_ks : ∃ s : ℝ, Ideal.ofBits .f32 0x3DB504F3#32 = (s : EReal) :=
  ⟨_, by simp [Ideal.ofBits, Ideal.ieee, -EReal.coe_mul]; rfl⟩

/-- The exponents of the frequencies: equally spaced from zero to one. -/
def lin (i : ℕ) : EReal :=
  if i < 63 then
    0 * (1 - Ideal.div (FloatOps.sitofp (F := Ideal) .f32 (BitVec.ofNat 32 i)) (Ideal.ofBits .f32 1115422720#32)) +
      1 * Ideal.div (FloatOps.sitofp (F := Ideal) .f32 (BitVec.ofNat 32 i)) (Ideal.ofBits .f32 1115422720#32)
  else 1

/-- The inverse frequencies. -/
def frq (i : ℕ) : EReal := Ideal.div 1 (Ideal.pow (Ideal.ofBits .f32 1176256512#32) (lin i))

/-- The exponents are real numbers. -/
theorem lin_real (i : ℕ) : ∃ x : ℝ, lin i = (x : EReal) := by
  unfold lin
  split_ifs with h
  · rw [pos_real i (by omega), lit_63, Ideal.div_coe (by norm_num), zero_mul, zero_add, one_mul, ← EReal.coe_mul]
    exact ⟨_, rfl⟩
  · exact ⟨1, rfl⟩

/-- The inverse frequencies are real numbers. -/
theorem frq_real : ∃ f : ℕ → ℝ, ∀ i, frq i = (f i : EReal) := by
  have h : ∀ i, ∃ x : ℝ, frq i = (x : EReal) := fun i => by
    obtain ⟨x, hx⟩ := lin_real i
    unfold frq
    rw [hx, lit_1e4, Ideal.pow_coe_coe, Ideal.div_coe (by exact (Real.rpow_pos_of_pos (by norm_num) _).ne'), one_mul]
    exact ⟨_, rfl⟩
  exact ⟨fun i => (h i).choose, fun i => (h i).choose_spec⟩

/-- An extended real between the infinities is a real number. -/
theorem real_of {x : EReal} (h1 : ⊥ < x) (h2 : x < ⊤) : ∃ r : ℝ, x = (r : EReal) := by
  induction x with
  | bot => exact absurd h1 (lt_irrefl _)
  | top => exact absurd h2 (lt_irrefl _)
  | coe r => exact ⟨r, rfl⟩

/-- A square of an infinity is infinite. -/
theorem mul_self_top {x : EReal} (h : ¬ ∃ r : ℝ, x = (r : EReal)) : x * x = ⊤ := by
  induction x with
  | bot => simp
  | top => simp
  | coe r => exact absurd ⟨r, rfl⟩ h

/-- A row with an infinite entry has scale zero. -/
theorem rms_zero (row : Fin 1024 → EReal) (j : Fin 1024) (h : ¬ ∃ r : ℝ, row j = (r : EReal)) : Rows.rms row = 0 := by
  obtain ⟨e, he, hl⟩ := Rows.lit_eps
  have hs : ∑ j, row j * row j = ⊤ := by
    refine top_le_iff.mp ?_
    rw [← mul_self_top h]
    exact Finset.single_le_sum (f := fun j => row j * row j) (fun i _ => Rows.mul_self_nonneg' _) (Finset.mem_univ j)
  unfold Rows.rms
  rw [hs, Rows.lit_1024, Ideal.div_coe (by norm_num), EReal.top_mul_coe_of_pos (by norm_num), hl, EReal.top_add_coe]
  rfl

/-- A projection with a finite gain and finite columns is a real number, whatever the row. -/
theorem proj_real (row g w : Fin 1024 → EReal) (hg : ∀ j, ∃ r : ℝ, g j = (r : EReal)) (hw : ∀ j, ∃ r : ℝ, w j = (r : EReal)) :
    ∃ r : ℝ, Rows.proj row g w = (r : EReal) := by
  by_cases h : ∃ j, ¬ ∃ r : ℝ, row j = (r : EReal)
  · obtain ⟨j, hj⟩ := h
    exact ⟨0, by rw [Rows.proj, rms_zero row j hj, mul_zero]; rfl⟩
  · simp only [not_exists, not_forall, not_not] at h
    obtain ⟨s, -, hs⟩ := Rows.rms_real row
    choose a ha using h
    choose b hb using hg
    choose c hc using hw
    refine ⟨(∑ j, a j * b j * c j) * s, ?_⟩
    rw [Rows.proj, hs, EReal.coe_mul, ← coe_sum]
    simp only [ha, hb, hc, EReal.coe_mul]

end Cert.MixSpec
end
-- ==== Proof.MixDecay.lean ====
module

public import proofs.«01_k».proof.Proof.Gen.KernelIdeal.Frame
public import Idealize.ShloMosaic.Lib.Tactic
public import Idealize.ShloMosaic.Lib.Pipeline.ValueKit

@[expose] public section
set_option maxRecDepth 16384
noncomputable section

/-!
# The decay tables

What the first call leaves: the mask of a chunk and the four decay tables of each head, as the program's own expressions.
-/

namespace Cert.KernelIdeal.Mix

open Idealize.ShloMosaic Idealize.ShloMosaic.TcCoe Idealize.SL.Sem
open Cert.KernelIdeal Cert.KernelIdeal.Gen

/-- The mask entry of rows `a`, `b` from the two log decays. -/
def maskE (lf lb : EReal) (a b : ℕ) : EReal :=
  Ideal.exp (Scalar.select (IntOp.cmpi CmpIPredicate.sge (BitVec.ofNat 32 a) (BitVec.ofNat 32 b))
    (lf * FloatOps.sitofp (F := Ideal) .f32 (IntOp.subi (BitVec.ofNat 32 a) (BitVec.ofNat 32 b)))
    ((0 - lb) * FloatOps.sitofp (F := Ideal) .f32 (IntOp.subi (BitVec.ofNat 32 a) (BitVec.ofNat 32 b))))

/-- A row number as the program has it. -/
def rowE (a : ℕ) : EReal := FloatOps.sitofp (F := Ideal) .f32 (BitVec.ofNat 32 a)

/-- The decay table `n` at row `a`. -/
def decE (lf lb : EReal) (n : ℕ) (a : ℕ) : EReal :=
  if n = 0 then Ideal.exp (lf * (rowE a + 1))
  else if n = 1 then Ideal.exp (lb * (Ideal.ofBits .f32 0x43800000#32 - rowE a))
  else if n = 2 then Ideal.exp (lf * (Ideal.ofBits .f32 0x437F0000#32 - rowE a))
  else Ideal.exp (lb * rowE a)

/-- The scalar loads' offsets: the layer and the head. -/
theorem off1 (i : grid0.Coords) : k0_off1 i 0 = (i 0).val ∧ k0_off1 i 1 = 0 := by revert i; decide +kernel
/-- The scalar loads' offsets: the layer and the head. -/
theorem off2 (i : grid0.Coords) : k0_off2 i 0 = (i 0).val ∧ k0_off2 i 1 = 1 := by revert i; decide +kernel
/-- The scalar loads' offsets: the layer and the head. -/
theorem off3 (i : grid0.Coords) : k0_off3 i 0 = (i 0).val ∧ k0_off3 i 1 = 2 := by revert i; decide +kernel
/-- The scalar loads' offsets: the layer and the head. -/
theorem off4 (i : grid0.Coords) : k0_off4 i 0 = (i 0).val ∧ k0_off4 i 1 = 3 := by revert i; decide +kernel

/-- A head's decays of a chunk, entry by entry. -/
theorem out0_mask (c : Dev nD) (i : grid0.Coords) (arg1 : Memref sig .tc .smem S2x4 .f32) (harg1 : arg1.IsWhole) (arg2 : Memref sig .tc .smem S2x4 .f32) (harg2 : arg2.IsWhole) (arg3 : Memref sig .tc .vmem S1x4x256x256 .f32) (harg3 : arg3.IsWhole) (arg4 : Memref sig .tc .vmem S1x4x4x256x128 .bf16) (harg4 : arg4.IsWhole)
    (x0 : Vec Ideal S2x4 .f32) (x1 : Vec Ideal S2x4 .f32) (z : Fin 1) (hd : Fin 4) (a b : Fin 256) (l : Fin 2) (hl : l.val = (i 0).val) :
    out0_A_2 (F := Ideal) c i arg1 harg1 arg2 harg2 arg3 harg3 arg4 harg4 x0 x1 (ix4 z hd a b) =
      maskE (x0 (ix2 l hd)) (x1 (ix2 l hd)) a b := by
  frame_out
  canon_tiles x h
  all_goals idx_vars x
  all_goals pointwise [k0_pay6, k0_pay12, k0_pay18, k0_pay24, k0_pay4, k0_pay5]
  all_goals unfold maskE
  all_goals rw [h2, h3]
  all_goals (have o1 := off1 i; have o2 := off2 i; have o3 := off3 i; have o4 := off4 i; blk_point [] <;> omega)

/-- A head's decays of a chunk's rows, entry by entry. -/
theorem out0_dec (c : Dev nD) (i : grid0.Coords) (arg1 : Memref sig .tc .smem S2x4 .f32) (harg1 : arg1.IsWhole) (arg2 : Memref sig .tc .smem S2x4 .f32) (harg2 : arg2.IsWhole) (arg3 : Memref sig .tc .vmem S1x4x256x256 .f32) (harg3 : arg3.IsWhole) (arg4 : Memref sig .tc .vmem S1x4x4x256x128 .bf16) (harg4 : arg4.IsWhole)
    (x0 : Vec Ideal S2x4 .f32) (x1 : Vec Ideal S2x4 .f32) (z : Fin 1) (hd n : Fin 4) (a : Fin 256) (d : Fin 128) (l : Fin 2) (hl : l.val = (i 0).val) :
    out0_A_3 (F := Ideal) c i arg1 harg1 arg2 harg2 arg3 harg3 arg4 harg4 x0 x1 (ix5 z hd n a d) =
      decE (x0 (ix2 l hd)) (x1 (ix2 l hd)) n a := by
  frame_out
  canon_tiles x h
  all_goals idx_vars x
  all_goals pointwise [k0_pay1, k0_pay2, k0_pay3, k0_pay5, k0_pay7, k0_pay8, k0_pay9, k0_pay10, k0_pay11, k0_pay13, k0_pay14, k0_pay15, k0_pay16, k0_pay17, k0_pay19, k0_pay20, k0_pay21, k0_pay22, k0_pay23, k0_pay25, k0_pay26]
  all_goals unfold decE rowE
  all_goals rw [h2, h3]
  all_goals simp only [Nat.add_zero, x2_lt, (by omega : x2.val = 0), reduceIte, Nat.reduceEqDiff, OfNat.ofNat_ne_zero, one_ne_zero]
  all_goals (have o1 := off1 i; have o2 := off2 i; have o3 := off3 i; have o4 := off4 i; blk_point [] <;> omega)

variable (V : (c : Dev nD) → (b : Ref sig .tc) → Buf (Elt Ideal) ((c : Thread nD τ).loc b))

/-- The grid point's coordinate is the layer. -/
theorem coord0 : ∀ t : Fin grid0.N, (grid0.coords t 0).val = t.val := by decide +kernel
/-- The mask's block at a grid point. -/
theorem idx0_2 : ∀ t : Fin grid0.N, win0_2.index t = ![t.val, 0, 0, 0] := by decide +kernel
/-- The tables' block at a grid point. -/
theorem idx0_3 : ∀ t : Fin grid0.N, win0_3.index t = ![t.val, 0, 0, 0, 0] := by decide +kernel
/-- The forward log decays' block is the array. -/
theorem rd0_0 (c : Dev nD) (t : Fin cfg0.N) (l : Fin 2) (h : Fin 4) : iblk0 V c 0 t (ix2 l h) = V c main_arg3 (ix2 l h) := by
  blk_ext! [iblk0, (by decide +kernel : ∀ t : Fin grid0.N, win0_0.index t = ![0, 0]) t]
/-- The backward log decays' block is the array. -/
theorem rd0_1 (c : Dev nD) (t : Fin cfg0.N) (l : Fin 2) (h : Fin 4) : iblk0 V c 1 t (ix2 l h) = V c main_arg4 (ix2 l h) := by
  blk_ext! [iblk0, (by decide +kernel : ∀ t : Fin grid0.N, win0_1.index t = ![0, 0]) t]

/-- The mask array after the first call. -/
theorem mask_final (c : Dev nD) : (dat0 V c).arrAt 2 cfg0.N =
    fun i => maskE (V c main_arg3 (ix2 (i 0) (i 1))) (V c main_arg4 (ix2 (i 0) (i 1))) (i 2).val (i 3).val := by
  refine (dat0 V c).arrAt_eq_of_covers 2 _ (by decide +kernel) fun t hf y => ?_
  show (dat0 V c).after _ t y = _
  rw [after0_2]
  unfold outsAt0
  idx_vars y
  have hc := coord0 t
  have e0 : (((cfg0.win 2).blk t).view.emb (ix4 y0 y1 y2 y3) 0 : ℕ) = t.val + y0.val := by blk_simp [idx0_2 t]
  have e1 : ((cfg0.win 2).blk t).view.emb (ix4 y0 y1 y2 y3) 1 = y1 := by apply Fin.ext; blk_simp [idx0_2 t]
  have e2 : ((cfg0.win 2).blk t).view.emb (ix4 y0 y1 y2 y3) 2 = y2 := by apply Fin.ext; blk_simp [idx0_2 t]
  have e3 : ((cfg0.win 2).blk t).view.emb (ix4 y0 y1 y2 y3) 3 = y3 := by apply Fin.ext; blk_simp [idx0_2 t]
  refine (out0_mask c (grid0.coords t) _ _ _ _ _ _ _ _ _ _ y0 y1 y2 y3 (((cfg0.win 2).blk t).view.emb (ix4 y0 y1 y2 y3) 0) (by omega)).trans ?_
  rw [e1, e2, e3]
  exact congrArg₂ (fun a b => maskE a b _ _) (rd0_0 V c t _ _) (rd0_1 V c t _ _)

/-- The decay tables after the first call. -/
theorem dec_final (c : Dev nD) : (dat0 V c).arrAt 3 cfg0.N =
    fun i => decE (V c main_arg3 (ix2 (i 0) (i 1))) (V c main_arg4 (ix2 (i 0) (i 1))) (i 2).val (i 3).val := by
  refine (dat0 V c).arrAt_eq_of_covers 3 _ (by decide +kernel) fun t hf y => ?_
  show (dat0 V c).after _ t y = _
  rw [after0_3]
  unfold outsAt0
  idx_vars y
  have hc := coord0 t
  have e0 : (((cfg0.win 3).blk t).view.emb (ix5 y0 y1 y2 y3 y4) 0 : ℕ) = t.val + y0.val := by blk_simp [idx0_3 t]
  have e1 : ((cfg0.win 3).blk t).view.emb (ix5 y0 y1 y2 y3 y4) 1 = y1 := by apply Fin.ext; blk_simp [idx0_3 t]
  have e2 : ((cfg0.win 3).blk t).view.emb (ix5 y0 y1 y2 y3 y4) 2 = y2 := by apply Fin.ext; blk_simp [idx0_3 t]
  have e3 : ((cfg0.win 3).blk t).view.emb (ix5 y0 y1 y2 y3 y4) 3 = y3 := by apply Fin.ext; blk_simp [idx0_3 t]
  refine (out0_dec c (grid0.coords t) _ _ _ _ _ _ _ _ _ _ y0 y1 y2 y3 y4 (((cfg0.win 3).blk t).view.emb (ix5 y0 y1 y2 y3 y4) 0) (by omega)).trans ?_
  rw [e1, e2, e3]
  exact congrArg₂ (fun a b => decE a b _ _) (rd0_0 V c t _ _) (rd0_1 V c t _ _)

end Cert.KernelIdeal.Mix
end
-- ==== Proof.MixStates.lean ====
module

public import proofs.«01_k».proof.Proof.Gen.KernelIdeal.Frame
public import Idealize.ShloMosaic.Lib.Tactic
public import Idealize.ShloMosaic.Lib.Pipeline.ValueKit

@[expose] public section
set_option maxRecDepth 65536
set_option maxHeartbeats 8000000
noncomputable section

/-!
# The states between the tiles

What the third call leaves: the running sum of the tiles' summaries, from the front for the forward heads and from the
back for the backward heads.
-/

namespace Cert.KernelIdeal.Mix

open Idealize.ShloMosaic Idealize.ShloMosaic.TcCoe Idealize.SL.Sem
open Cert.KernelIdeal Cert.KernelIdeal.Gen

/-- The state after `n` summaries, each step decaying by `a`. -/
def stF (a : EReal) (kv : ℕ → EReal) : ℕ → EReal
  | 0 => 0
  | n + 1 => a * stF a kv n + kv n

/-- The forward states. -/
theorem out2_fwd (c : Dev nD) (i : grid2.Coords) (arg1 : Memref sig .tc .smem S2x4 .f32) (harg1 : arg1.IsWhole) (arg2 : Memref sig .tc .smem S2x4 .f32) (harg2 : arg2.IsWhole) (arg3 : Memref sig .tc .vmem S1x16x8x128x128 .bf16) (harg3 : arg3.IsWhole) (arg4 : Memref sig .tc .vmem S1x16x8x128x128 .f32) (harg4 : arg4.IsWhole)
    (x0 : Vec Ideal S2x4 .f32) (x1 : Vec Ideal S2x4 .f32) (x2 : Vec Ideal S1x16x8x128x128 .bf16) (z : Fin 1) (t : Fin 16) (h : Fin 4) (p : Fin 8) (hp : p.val = 2 * h.val) (d e : Fin 128) :
    out2_A_3 (F := Ideal) c i arg1 harg1 arg2 harg2 arg3 harg3 arg4 harg4 x0 x1 x2 (ix5 z t p d e) =
      stF (Ideal.exp (x0 (ix2 0 h) * Ideal.ofBits .f32 0x44800000#32)) (fun n => x2 (ix5 z ⟨n % 16, Nat.mod_lt _ (by decide)⟩ p d e)) t.val := by
  frame_out
  canon_tiles x hx
  all_goals idx_vars x
  all_goals first | (exfalso; omega) | skip
  all_goals pointwise [k2_pay1, k2_pay2, k2_pay3, k2_pay4, k2_pay5, k2_pay6, k2_pay7, k2_pay8, k2_pay9, k2_pay10, k2_pay11, k2_pay12, k2_pay13, k2_pay14, k2_pay15, k2_pay16, k2_pay17, k2_pay18, k2_pay19, k2_pay20, k2_pay21, k2_pay22, k2_pay23, k2_pay24, k2_pay25, k2_pay26, k2_pay27, k2_pay28, k2_pay29, k2_pay30, k2_pay31, k2_pay32, k2_pay33, k2_pay34, k2_pay35, k2_pay36, k2_pay37, k2_pay38, k2_pay39, k2_pay40, k2_pay41, k2_pay42, k2_pay43, k2_pay44, k2_pay45, k2_pay46, k2_pay47, k2_pay48, k2_pay49, k2_pay50, k2_pay51, k2_pay52, k2_pay53, k2_pay54, k2_pay55, k2_pay56, k2_pay57, k2_pay58, k2_pay59, k2_pay60, k2_pay61, k2_pay62, k2_pay63, k2_pay64, k2_pay65, k2_pay66, k2_pay67, k2_pay68, k2_pay69, k2_pay70, k2_pay71, k2_pay72, k2_pay73, k2_pay74, k2_pay75, k2_pay76, k2_pay77, k2_pay78, k2_pay79, k2_pay80, k2_pay81, k2_pay82, k2_pay83, k2_pay84, k2_pay85, k2_pay86, k2_pay87, k2_pay88, k2_pay89, k2_pay90, k2_pay91, k2_pay92, k2_pay93, k2_pay94, k2_pay95, k2_pay96, k2_pay97, k2_pay98, k2_pay99, k2_pay100, k2_pay101, k2_pay102, k2_pay103, k2_pay104, k2_pay105, k2_pay106, k2_pay107, k2_pay108, k2_pay109, k2_pay110, k2_pay111, k2_pay112, k2_pay113, k2_pay114, k2_pay115, k2_pay116, k2_pay117, k2_pay118, k2_pay119, k2_pay120, k2_pay121, k2_pay122, k2_pay123, k2_pay124, k2_pay125, k2_pay126, k2_pay127, k2_pay128, k2_pay129, k2_pay130, k2_pay131, k2_pay132, k2_pay133, k2_pay134, k2_pay135, k2_pay136, k2_pay137, k2_pay138, k2_pay139, k2_pay140, k2_pay141, k2_pay142, k2_pay143, k2_pay144, k2_pay145, k2_pay146, k2_pay147, k2_pay148, k2_pay149, k2_pay150, k2_pay151, k2_pay152, k2_pay153, k2_pay154, k2_pay155, k2_pay156, k2_pay157, k2_pay158, k2_pay159, k2_pay160, k2_pay161, k2_pay162, k2_pay163, k2_pay164, k2_pay165, k2_pay166, k2_pay167, k2_pay168, k2_pay169, k2_pay170, k2_pay171, k2_pay172, k2_pay173, k2_pay174, k2_pay175, k2_pay176, k2_pay177, k2_pay178, k2_pay179, k2_pay180, k2_pay181, k2_pay182, k2_pay183, k2_pay184, k2_pay185, k2_pay186, k2_pay187, k2_pay188, k2_pay189, k2_pay190, k2_pay191, k2_pay192, k2_pay193, k2_pay194, k2_pay195, k2_pay196, k2_pay197, k2_pay198, k2_pay199, k2_pay200, k2_pay201, k2_pay202, k2_pay203, k2_pay204, k2_pay205, k2_pay206, k2_pay207, k2_pay208, k2_pay209, k2_pay210, k2_pay211, k2_pay212, k2_pay213, k2_pay214, k2_pay215, k2_pay216, k2_pay217, k2_pay218, k2_pay219, k2_pay220, k2_pay221, k2_pay222, k2_pay223, k2_pay224, k2_pay225, k2_pay226, k2_pay227, k2_pay228, k2_pay229, k2_pay230, k2_pay231, k2_pay232, k2_pay233, k2_pay234, k2_pay235, k2_pay236, k2_pay237, k2_pay238, k2_pay239, k2_pay240, k2_pay241, k2_pay242, k2_pay243, k2_pay244, k2_pay245, k2_pay246, k2_pay247, k2_pay248, k2_pay249, k2_pay250, k2_pay251, k2_pay252, k2_pay253, k2_pay254, k2_pay255, k2_pay256, k2_pay257, k2_pay258, k2_pay259, k2_pay260, k2_pay261, k2_pay262, k2_pay263, k2_pay264, k2_pay265, k2_pay266, k2_pay267, k2_pay268, k2_pay269, k2_pay270, k2_pay271, k2_pay272, k2_pay273, k2_pay274, k2_pay275, k2_pay276, k2_pay277, k2_pay278, k2_pay279, k2_pay280, k2_pay281, k2_pay282, k2_pay283]
  all_goals have hz : x1.val = 0 := by omega
  all_goals rw [hx1, hz]
  all_goals simp only [Nat.add_zero, Nat.reduceSub, stF]
  all_goals blk_point []

/-- The backward states. -/
theorem out2_bwd (c : Dev nD) (i : grid2.Coords) (arg1 : Memref sig .tc .smem S2x4 .f32) (harg1 : arg1.IsWhole) (arg2 : Memref sig .tc .smem S2x4 .f32) (harg2 : arg2.IsWhole) (arg3 : Memref sig .tc .vmem S1x16x8x128x128 .bf16) (harg3 : arg3.IsWhole) (arg4 : Memref sig .tc .vmem S1x16x8x128x128 .f32) (harg4 : arg4.IsWhole)
    (x0 : Vec Ideal S2x4 .f32) (x1 : Vec Ideal S2x4 .f32) (x2 : Vec Ideal S1x16x8x128x128 .bf16) (z : Fin 1) (t : Fin 16) (h : Fin 4) (p : Fin 8) (hp : p.val = 2 * h.val + 1) (d e : Fin 128) :
    out2_A_3 (F := Ideal) c i arg1 harg1 arg2 harg2 arg3 harg3 arg4 harg4 x0 x1 x2 (ix5 z t p d e) =
      stF (Ideal.exp (x1 (ix2 0 h) * Ideal.ofBits .f32 0x44800000#32)) (fun n => x2 (ix5 z ⟨(15 - n) % 16, Nat.mod_lt _ (by decide)⟩ p d e)) (15 - t.val) := by
  frame_out
  canon_tiles x hx
  all_goals idx_vars x
  all_goals first | (exfalso; omega) | skip
  all_goals pointwise [k2_pay1, k2_pay2, k2_pay3, k2_pay4, k2_pay5, k2_pay6, k2_pay7, k2_pay8, k2_pay9, k2_pay10, k2_pay11, k2_pay12, k2_pay13, k2_pay14, k2_pay15, k2_pay16, k2_pay17, k2_pay18, k2_pay19, k2_pay20, k2_pay21, k2_pay22, k2_pay23, k2_pay24, k2_pay25, k2_pay26, k2_pay27, k2_pay28, k2_pay29, k2_pay30, k2_pay31, k2_pay32, k2_pay33, k2_pay34, k2_pay35, k2_pay36, k2_pay37, k2_pay38, k2_pay39, k2_pay40, k2_pay41, k2_pay42, k2_pay43, k2_pay44, k2_pay45, k2_pay46, k2_pay47, k2_pay48, k2_pay49, k2_pay50, k2_pay51, k2_pay52, k2_pay53, k2_pay54, k2_pay55, k2_pay56, k2_pay57, k2_pay58, k2_pay59, k2_pay60, k2_pay61, k2_pay62, k2_pay63, k2_pay64, k2_pay65, k2_pay66, k2_pay67, k2_pay68, k2_pay69, k2_pay70, k2_pay71, k2_pay72, k2_pay73, k2_pay74, k2_pay75, k2_pay76, k2_pay77, k2_pay78, k2_pay79, k2_pay80, k2_pay81, k2_pay82, k2_pay83, k2_pay84, k2_pay85, k2_pay86, k2_pay87, k2_pay88, k2_pay89, k2_pay90, k2_pay91, k2_pay92, k2_pay93, k2_pay94, k2_pay95, k2_pay96, k2_pay97, k2_pay98, k2_pay99, k2_pay100, k2_pay101, k2_pay102, k2_pay103, k2_pay104, k2_pay105, k2_pay106, k2_pay107, k2_pay108, k2_pay109, k2_pay110, k2_pay111, k2_pay112, k2_pay113, k2_pay114, k2_pay115, k2_pay116, k2_pay117, k2_pay118, k2_pay119, k2_pay120, k2_pay121, k2_pay122, k2_pay123, k2_pay124, k2_pay125, k2_pay126, k2_pay127, k2_pay128, k2_pay129, k2_pay130, k2_pay131, k2_pay132, k2_pay133, k2_pay134, k2_pay135, k2_pay136, k2_pay137, k2_pay138, k2_pay139, k2_pay140, k2_pay141, k2_pay142, k2_pay143, k2_pay144, k2_pay145, k2_pay146, k2_pay147, k2_pay148, k2_pay149, k2_pay150, k2_pay151, k2_pay152, k2_pay153, k2_pay154, k2_pay155, k2_pay156, k2_pay157, k2_pay158, k2_pay159, k2_pay160, k2_pay161, k2_pay162, k2_pay163, k2_pay164, k2_pay165, k2_pay166, k2_pay167, k2_pay168, k2_pay169, k2_pay170, k2_pay171, k2_pay172, k2_pay173, k2_pay174, k2_pay175, k2_pay176, k2_pay177, k2_pay178, k2_pay179, k2_pay180, k2_pay181, k2_pay182, k2_pay183, k2_pay184, k2_pay185, k2_pay186, k2_pay187, k2_pay188, k2_pay189, k2_pay190, k2_pay191, k2_pay192, k2_pay193, k2_pay194, k2_pay195, k2_pay196, k2_pay197, k2_pay198, k2_pay199, k2_pay200, k2_pay201, k2_pay202, k2_pay203, k2_pay204, k2_pay205, k2_pay206, k2_pay207, k2_pay208, k2_pay209, k2_pay210, k2_pay211, k2_pay212, k2_pay213, k2_pay214, k2_pay215, k2_pay216, k2_pay217, k2_pay218, k2_pay219, k2_pay220, k2_pay221, k2_pay222, k2_pay223, k2_pay224, k2_pay225, k2_pay226, k2_pay227, k2_pay228, k2_pay229, k2_pay230, k2_pay231, k2_pay232, k2_pay233, k2_pay234, k2_pay235, k2_pay236, k2_pay237, k2_pay238, k2_pay239, k2_pay240, k2_pay241, k2_pay242, k2_pay243, k2_pay244, k2_pay245, k2_pay246, k2_pay247, k2_pay248, k2_pay249, k2_pay250, k2_pay251, k2_pay252, k2_pay253, k2_pay254, k2_pay255, k2_pay256, k2_pay257, k2_pay258, k2_pay259, k2_pay260, k2_pay261, k2_pay262, k2_pay263, k2_pay264, k2_pay265, k2_pay266, k2_pay267, k2_pay268, k2_pay269, k2_pay270, k2_pay271, k2_pay272, k2_pay273, k2_pay274, k2_pay275, k2_pay276, k2_pay277, k2_pay278, k2_pay279, k2_pay280, k2_pay281, k2_pay282, k2_pay283]
  all_goals have hz : x1.val = 0 := by omega
  all_goals rw [hx1, hz]
  all_goals simp only [Nat.add_zero, Nat.reduceSub, stF]
  all_goals blk_point []

end Cert.KernelIdeal.Mix
-- ==== Proof.MixOut.lean ====
module

public import proofs.«01_k».proof.Proof.Gen.KernelIdeal.Frame
public import proofs.«01_k».proof.Proof.Rows
public import Idealize.ShloMosaic.Lib.Tactic
public import Idealize.ShloMosaic.Lib.Pipeline.ValueKit

@[expose] public section
set_option maxRecDepth 65536
set_option maxHeartbeats 8000000
noncomputable section

/-!
# The retention and the output of a tile

What the last call leaves for a tile: the retention of its four chunks, normalised per head and gated, and the output
projections with their gates.
-/

namespace Cert.KernelIdeal.Mix

open Idealize.ShloMosaic Idealize.ShloMosaic.TcCoe Idealize.SL.Sem
open Cert.KernelIdeal Cert.KernelIdeal.Gen

/-- The state after `n` summaries from the state `s`, each step decaying by `a`. -/
def stG (s a : EReal) (kv : ℕ → EReal) : ℕ → EReal
  | 0 => s
  | n + 1 => a * stG s a kv n + kv n

/-- A row of a chunk, as a row of the tile. -/
def crow (n : ℕ) (r : Fin 256) : Fin 1024 := ⟨(256 * n + r.val) % 1024, Nat.mod_lt _ (by decide)⟩

/-- A dimension of a head, as a column. -/
def hcol (h : Fin 4) (d : Fin 128) : Fin 512 := ⟨128 * h.val + d.val, by omega⟩

/-- The summary of a chunk under a decay table. -/
def ckv (x5 x6 : Vec Ideal S1x1024x512 .bf16) (x10 : Vec Ideal S1x4x4x256x128 .bf16) (w : Fin 4) (h : Fin 4) (d e : Fin 128) (n : ℕ) : EReal :=
  ∑ r : Fin 256, x5 (ix3 0 (crow n r) (hcol h d)) * x10 (ix5 0 h w r d) * x6 (ix3 0 (crow n r) (hcol h e))

/-- The state in front of a chunk. -/
def fwC (x0 x1 : Vec Ideal S2x4 .f32) (x4 x5 x6 : Vec Ideal S1x1024x512 .bf16) (x8 : Vec Ideal S1x1x8x128x128 .f32) (x9 : Vec Ideal S1x4x256x256 .f32) (x10 : Vec Ideal S1x4x4x256x128 .bf16) (h : Fin 4) (d e : Fin 128) (n : ℕ) : EReal :=
  stG (x8 (ix5 0 0 ⟨2 * h.val, by omega⟩ d e)) (Ideal.exp (x0 (ix2 0 h) * Ideal.ofBits .f32 0x43800000#32)) (ckv x5 x6 x10 2 h d e) n

/-- The state behind a chunk. -/
def bwC (x0 x1 : Vec Ideal S2x4 .f32) (x4 x5 x6 : Vec Ideal S1x1024x512 .bf16) (x8 : Vec Ideal S1x1x8x128x128 .f32) (x9 : Vec Ideal S1x4x256x256 .f32) (x10 : Vec Ideal S1x4x4x256x128 .bf16) (h : Fin 4) (d e : Fin 128) (n : ℕ) : EReal :=
  stG (x8 (ix5 0 0 ⟨2 * h.val + 1, by omega⟩ d e)) (Ideal.exp (x1 (ix2 0 h) * Ideal.ofBits .f32 0x43800000#32)) (fun k => ckv x5 x6 x10 3 h d e (3 - k)) (3 - n)

/-- The retention of a row of a chunk. -/
def yC (x0 x1 : Vec Ideal S2x4 .f32) (x4 x5 x6 : Vec Ideal S1x1024x512 .bf16) (x8 : Vec Ideal S1x1x8x128x128 .f32) (x9 : Vec Ideal S1x4x256x256 .f32) (x10 : Vec Ideal S1x4x4x256x128 .bf16) (h : Fin 4) (n : ℕ) (r : Fin 256) (e : Fin 128) : EReal :=
  (∑ j : Fin 256, (∑ d : Fin 128, x4 (ix3 0 (crow n r) (hcol h d)) * x5 (ix3 0 (crow n j) (hcol h d))) * x9 (ix4 0 h r j) * x6 (ix3 0 (crow n j) (hcol h e))) +
  ((∑ d : Fin 128, x4 (ix3 0 (crow n r) (hcol h d)) * x10 (ix5 0 h 0 r d) * fwC x0 x1 x4 x5 x6 x8 x9 x10 h d e n) +
    ∑ d : Fin 128, x4 (ix3 0 (crow n r) (hcol h d)) * x10 (ix5 0 h 1 r d) * bwC x0 x1 x4 x5 x6 x8 x9 x10 h d e n)

/-- A head's row less its mean. -/
def gnc (y : Fin 128 → EReal) (e : Fin 128) : EReal := y e - Ideal.div (∑ x, y x) (Ideal.ofBits .f32 0x43000000#32)

/-- A head's row normalised to mean zero and variance one. -/
def gn (y : Fin 128 → EReal) (e : Fin 128) : EReal :=
  gnc y e * Ideal.rsqrt (Ideal.div (∑ x, gnc y x * gnc y x) (Ideal.ofBits .f32 0x43000000#32) + Ideal.ofBits .f32 0x358637BD#32)

/-- The merged row of a tile, from the retained row `ret`. -/
def mrgC (x2 : Vec Ideal S1x1024x1024 .f32) (x3 : Vec Ideal S1x1x1024 .f32) (x11 : Vec Ideal S1x1024x512 .bf16) (x12 : Vec Ideal S1x1024x2048 .bf16) (x13 x14 : Vec Ideal S1x512x1024 .bf16)
    (ret : Fin 512 → EReal) (r : Fin 1024) (j : Fin 1024) : EReal :=
  Ideal.logistic (Rows.proj (fun k => x2 (ix3 0 r k)) (fun k => x3 (ix3 0 0 k)) (fun k => x12 (ix3 0 k ⟨j.val, by omega⟩))) * (∑ k, ret k * x13 (ix3 0 k j)) +
  Ideal.logistic (Rows.proj (fun k => x2 (ix3 0 r k)) (fun k => x3 (ix3 0 0 k)) (fun k => x12 (ix3 0 k ⟨1024 + j.val, by omega⟩))) * (∑ k, x11 (ix3 0 r k) * x14 (ix3 0 k j))

/-- The retained value of a row and a column, gated. -/
def retC (x0 x1 : Vec Ideal S2x4 .f32) (x4 x5 x6 : Vec Ideal S1x1024x512 .bf16) (x8 : Vec Ideal S1x1x8x128x128 .f32) (x9 : Vec Ideal S1x4x256x256 .f32) (x10 : Vec Ideal S1x4x4x256x128 .bf16) (x7 : Vec Ideal S1x1024x512 .bf16) (r : Fin 1024) (col : Fin 512) : EReal :=
  x7 (ix3 0 r col) * Ideal.logistic (x7 (ix3 0 r col)) *
    gn (yC x0 x1 x4 x5 x6 x8 x9 x10 ⟨col.val / 128, by omega⟩ (r.val / 256) ⟨r.val % 256, by omega⟩) ⟨col.val % 128, by omega⟩

/-- The output block of a tile. -/
theorem out3 (c : Dev nD) (i : grid3.Coords) (arg2 : Memref sig .tc .smem S2x4 .f32) (harg2 : arg2.IsWhole) (arg3 : Memref sig .tc .smem S2x4 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x1024x512 .bf16) (harg8 : arg8.IsWhole) (arg9 : Memref sig .tc .vmem S1x1024x512 .bf16) (harg9 : arg9.IsWhole) (arg10 : Memref sig .tc .vmem S1x1x8x128x128 .f32) (harg10 : arg10.IsWhole) (arg11 : Memref sig .tc .vmem S1x4x256x256 .f32) (harg11 : arg11.IsWhole) (arg12 : Memref sig .tc .vmem S1x4x4x256x128 .bf16) (harg12 : arg12.IsWhole) (arg13 : Memref sig .tc .vmem S1x1024x512 .bf16) (harg13 : arg13.IsWhole) (arg14 : Memref sig .tc .vmem S1x1024x2048 .bf16) (harg14 : arg14.IsWhole) (arg15 : Memref sig .tc .vmem S1x512x1024 .bf16) (harg15 : arg15.IsWhole) (arg16 : Memref sig .tc .vmem S1x512x1024 .bf16) (harg16 : arg16.IsWhole) (arg17 : Memref sig .tc .vmem S1x1024x1024 .bf16) (harg17 : arg17.IsWhole) (arg18 : Memref sig .tc .vmem S1x1024x1024 .f32) (harg18 : arg18.IsWhole) (arg19 : Memref sig .tc .vmem S1024x512 .bf16) (harg19 : arg19.IsWhole) (arg20 : Memref sig .tc .vmem S1024x1024 .bf16) (harg20 : arg20.IsWhole)
    (x0 : Vec Ideal S2x4 .f32) (x1 : Vec Ideal S2x4 .f32) (x2 : Vec Ideal S1x1024x1024 .f32) (x3 : Vec Ideal S1x1x1024 .f32) (x4 : Vec Ideal S1x1024x512 .bf16) (x5 : Vec Ideal S1x1024x512 .bf16) (x6 : Vec Ideal S1x1024x512 .bf16) (x7 : Vec Ideal S1x1024x512 .bf16) (x8 : Vec Ideal S1x1x8x128x128 .f32) (x9 : Vec Ideal S1x4x256x256 .f32) (x10 : Vec Ideal S1x4x4x256x128 .bf16) (x11 : Vec Ideal S1x1024x512 .bf16) (x12 : Vec Ideal S1x1024x2048 .bf16) (x13 : Vec Ideal S1x512x1024 .bf16) (x14 : Vec Ideal S1x512x1024 .bf16) (x15 : Vec Ideal S1x1024x1024 .bf16) (z : Fin 1) (r : Fin 1024) (col : Fin 1024) :
    out3_A_16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 (ix3 z r col) =
      x2 (ix3 0 r col) + ∑ j : Fin 1024, mrgC x2 x3 x11 x12 x13 x14 (retC x0 x1 x4 x5 x6 x8 x9 x10 x7 r) r j * x15 (ix3 0 j col) := by
  frame_out
  simp only [View.readCov_eq_canon']
  generalize hM : View.canon (Val := Elt Ideal) (s := S1024x1024) (e := .bf16) _ = M
  generalize hR : View.canon (Val := Elt Ideal) (s := S1024x512) (e := .bf16) _ = R at hM
  have keyR : ∀ (r : Fin 1024) (col : Fin 512), R (ix2 r col) = retC x0 x1 x4 x5 x6 x8 x9 x10 x7 r col := by
    intro r col
    rw [← hR]
    clear hM hR
    canon_tiles x hx
    all_goals idx_vars x
    all_goals rename_i w0 w1
    all_goals have e3 : (⟨r.val % 256, by omega⟩ : Fin 256) = x0 := Fin.ext (by dsimp only; omega)
    all_goals have e4 : (⟨col.val % 128, by omega⟩ : Fin 128) = x1 := Fin.ext (by dsimp only; omega)
    all_goals (first | have e1 : r.val / 256 = 0 := by omega | have e1 : r.val / 256 = 1 := by omega | have e1 : r.val / 256 = 2 := by omega | have e1 : r.val / 256 = 3 := by omega)
    all_goals (first | have e2 : (⟨col.val / 128, by omega⟩ : Fin 4) = ⟨0, by decide⟩ := Fin.ext (by dsimp only; omega) | have e2 : (⟨col.val / 128, by omega⟩ : Fin 4) = ⟨1, by decide⟩ := Fin.ext (by dsimp only; omega) | have e2 : (⟨col.val / 128, by omega⟩ : Fin 4) = ⟨2, by decide⟩ := Fin.ext (by dsimp only; omega) | have e2 : (⟨col.val / 128, by omega⟩ : Fin 4) = ⟨3, by decide⟩ := Fin.ext (by dsimp only; omega))
    all_goals unfold retC
    all_goals rw [e1, e2, e3, e4]
    all_goals unfold gn gnc yC fwC bwC
    all_goals simp only [stG, ckv, crow, hcol, Nat.reduceSub]
    all_goals pointwise [k3_pay1, k3_pay2, k3_pay3, k3_pay4, k3_pay5, k3_pay6, k3_pay7, k3_pay8, k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, k3_pay67, k3_pay68, k3_pay69, k3_pay70, k3_pay71, k3_pay72, k3_pay73, k3_pay74, k3_pay75, k3_pay76, k3_pay77, k3_pay78, k3_pay79, k3_pay80, k3_pay81, k3_pay82, k3_pay83, k3_pay84, k3_pay85, k3_pay86, k3_pay87, k3_pay88, k3_pay89, k3_pay90, k3_pay91, k3_pay92, k3_pay93, k3_pay94, k3_pay95, k3_pay96, k3_pay97, k3_pay98, k3_pay99, k3_pay100, k3_pay101, k3_pay102, k3_pay103, k3_pay104, k3_pay105, k3_pay106, k3_pay107, k3_pay108, k3_pay109, k3_pay110, k3_pay111, k3_pay112, k3_pay113, k3_pay114, k3_pay115, k3_pay116, k3_pay117, k3_pay118, k3_pay119, k3_pay120, k3_pay121, k3_pay122, k3_pay123, k3_pay124]
    all_goals (blk_point [] <;> blk_point [] <;> blk_point [] <;> blk_point [])
  have keyM : ∀ (r : Fin 1024) (j : Fin 1024), M (ix2 r j) = mrgC x2 x3 x11 x12 x13 x14 (retC x0 x1 x4 x5 x6 x8 x9 x10 x7 r) r j := by
    intro r j
    rw [← hM]
    clear hM hR
    canon_tiles x hx
    all_goals idx_vars x
    all_goals obtain rfl : r = x0 := Fin.ext hx0
    all_goals pointwise [k3_pay1, k3_pay2, k3_pay3, k3_pay4, k3_pay5, k3_pay6, k3_pay7, k3_pay8, k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, k3_pay67, k3_pay68, k3_pay69, k3_pay70, k3_pay71, k3_pay72, k3_pay73, k3_pay74, k3_pay75, k3_pay76, k3_pay77, k3_pay78, k3_pay79, k3_pay80, k3_pay81, k3_pay82, k3_pay83, k3_pay84, k3_pay85, k3_pay86, k3_pay87, k3_pay88, k3_pay89, k3_pay90, k3_pay91, k3_pay92, k3_pay93, k3_pay94, k3_pay95, k3_pay96, k3_pay97, k3_pay98, k3_pay99, k3_pay100, k3_pay101, k3_pay102, k3_pay103, k3_pay104, k3_pay105, k3_pay106, k3_pay107, k3_pay108, k3_pay109, k3_pay110, k3_pay111, k3_pay112, k3_pay113, k3_pay114, k3_pay115, k3_pay116, k3_pay117, k3_pay118, k3_pay119, k3_pay120, k3_pay121, k3_pay122, k3_pay123, k3_pay124]
    all_goals unfold mrgC Rows.proj Rows.rms
    all_goals simp only [keyR]
    all_goals blk_point [] <;> blk_point []
  clear hM hR
  pointwise [k3_pay1, k3_pay2, k3_pay3, k3_pay4, k3_pay5, k3_pay6, k3_pay7, k3_pay8, k3_pay9, k3_pay10, k3_pay11, k3_pay12, k3_pay13, k3_pay14, k3_pay15, k3_pay16, k3_pay17, k3_pay18, k3_pay19, k3_pay20, k3_pay21, k3_pay22, k3_pay23, k3_pay24, k3_pay25, k3_pay26, k3_pay27, k3_pay28, k3_pay29, k3_pay30, k3_pay31, k3_pay32, k3_pay33, k3_pay34, k3_pay35, k3_pay36, k3_pay37, k3_pay38, k3_pay39, k3_pay40, k3_pay41, k3_pay42, k3_pay43, k3_pay44, k3_pay45, k3_pay46, k3_pay47, k3_pay48, k3_pay49, k3_pay50, k3_pay51, k3_pay52, k3_pay53, k3_pay54, k3_pay55, k3_pay56, k3_pay57, k3_pay58, k3_pay59, k3_pay60, k3_pay61, k3_pay62, k3_pay63, k3_pay64, k3_pay65, k3_pay66, k3_pay67, k3_pay68, k3_pay69, k3_pay70, k3_pay71, k3_pay72, k3_pay73, k3_pay74, k3_pay75, k3_pay76, k3_pay77, k3_pay78, k3_pay79, k3_pay80, k3_pay81, k3_pay82, k3_pay83, k3_pay84, k3_pay85, k3_pay86, k3_pay87, k3_pay88, k3_pay89, k3_pay90, k3_pay91, k3_pay92, k3_pay93, k3_pay94, k3_pay95, k3_pay96, k3_pay97, k3_pay98, k3_pay99, k3_pay100, k3_pay101, k3_pay102, k3_pay103, k3_pay104, k3_pay105, k3_pay106, k3_pay107, k3_pay108, k3_pay109, k3_pay110, k3_pay111, k3_pay112, k3_pay113, k3_pay114, k3_pay115, k3_pay116, k3_pay117, k3_pay118, k3_pay119, k3_pay120, k3_pay121, k3_pay122, k3_pay123, k3_pay124]
  simp only [keyM]
end Cert.KernelIdeal.Mix
-- ==== Proof.MixNum.lean ====
module

public import proofs.«01_k».proof.Proof.MixSpec
public import proofs.«01_k».proof.Proof.MixDecay
public import proofs.«01_k».proof.Proof.MixStates
public import proofs.«01_k».proof.Proof.MixOut
public import Idealize.ShloMosaic.Lib.WordCmp

@[expose] public section
noncomputable section

/-!
# The mixer's decays and states as real numbers

With real log decays the masks and decay tables are exponentials, and with real summaries the running states are the
decayed sums of everything in front of, or behind, a position.
-/

namespace Cert.MixNum

open Idealize.ShloMosaic Cert.MixReal Cert.MixSpec
open Cert.KernelIdeal.Mix (maskE decE rowE stF stG)

/-- A small number as a signed word. -/
theorem toInt_small (n : ℕ) (h : n < 1073741824) : (BitVec.ofNat 32 n).toInt = (n : ℤ) := by
  have hn : (BitVec.ofNat 32 n).toNat = n := by rw [BitVec.toNat_ofNat]; exact Nat.mod_eq_of_lt (by omega)
  rw [BitVec.toInt_eq_toNat_of_lt (by omega), hn]

/-- The comparison of small positions, first at least second. -/
theorem cmp_sge (a b : ℕ) (ha : a < 1073741824) (hb : b < 1073741824) :
    IntOp.cmpi .sge (BitVec.ofNat 32 a) (BitVec.ofNat 32 b) = if b ≤ a then 1#1 else 0#1 := by
  rw [WordCmp.cmpi_sge_eq, toInt_small a ha, toInt_small b hb]
  by_cases h : b ≤ a
  · rw [if_pos h, decide_eq_true (by exact_mod_cast h)]; rfl
  · rw [if_neg h, decide_eq_false (by exact_mod_cast h)]; rfl

/-- The comparison of small positions, first below second. -/
theorem cmp_slt (a b : ℕ) (ha : a < 1073741824) (hb : b < 1073741824) :
    IntOp.cmpi .slt (BitVec.ofNat 32 a) (BitVec.ofNat 32 b) = if a < b then 1#1 else 0#1 := by
  rw [WordCmp.cmpi_slt_eq, toInt_small a ha, toInt_small b hb]
  by_cases h : a < b
  · rw [if_pos h, decide_eq_true (by exact_mod_cast h)]; rfl
  · rw [if_neg h, decide_eq_false (by exact_mod_cast h)]; rfl

/-- The distance of small positions. -/
theorem sub_real (a b : ℕ) (ha : a < 1073741824) (hb : b < 1073741824) :
    FloatOps.sitofp (F := Ideal) .f32 (IntOp.subi (BitVec.ofNat 32 a) (BitVec.ofNat 32 b)) = (((a : ℝ) - b : ℝ) : EReal) := by
  show (((BitVec.ofNat 32 a - BitVec.ofNat 32 b).toInt : ℝ) : EReal) = _
  have h : (BitVec.ofNat 32 a - BitVec.ofNat 32 b).toInt = (a : ℤ) - b := by
    rw [BitVec.toInt_sub, toInt_small a ha, toInt_small b hb]
    rw [Int.bmod_eq_of_le] <;> omega
  rw [h]; push_cast; rfl

/-- The mask of a chunk is the decay between its rows. -/
theorem mask_real (lf lb : ℝ) (a b : ℕ) (ha : a < 1073741824) (hb : b < 1073741824) :
    maskE lf lb a b = (dec lf lb a b : EReal) := by
  unfold maskE dec
  rw [cmp_sge a b ha hb, sub_real a b ha hb]
  by_cases h : b ≤ a
  · rw [if_pos h, if_pos h, ValueIdx.select_one, ← EReal.coe_mul, Ideal.exp_coe]
  · rw [if_neg h, if_neg h, ValueIdx.select_zero, zero_sub, ← EReal.coe_neg, ← EReal.coe_mul, Ideal.exp_coe]
    congr 2; ring

/-- The decay of a query row to the states in front. -/
theorem dec0 (lf lb : ℝ) (a : ℕ) (ha : a < 1073741824) : decE lf lb 0 a = (Real.exp (lf * ((a : ℝ) + 1)) : EReal) := by
  unfold decE rowE
  rw [if_pos rfl, pos_real a (by omega), ← EReal.coe_one, ← EReal.coe_add, ← EReal.coe_mul, Ideal.exp_coe]
/-- The decay of a query row to the states behind. -/
theorem dec1 (lf lb : ℝ) (a : ℕ) (ha : a < 1073741824) : decE lf lb 1 a = (Real.exp (lb * (256 - (a : ℝ))) : EReal) := by
  unfold decE rowE
  rw [if_neg (by decide), if_pos rfl, pos_real a (by omega), lit_256, ← EReal.coe_sub, ← EReal.coe_mul, Ideal.exp_coe]
/-- The decay of a key row in the forward summary. -/
theorem dec2 (lf lb : ℝ) (a : ℕ) (ha : a < 1073741824) : decE lf lb 2 a = (Real.exp (lf * (255 - (a : ℝ))) : EReal) := by
  unfold decE rowE
  rw [if_neg (by decide), if_neg (by decide), if_pos rfl, pos_real a (by omega), lit_255, ← EReal.coe_sub, ← EReal.coe_mul, Ideal.exp_coe]
/-- The decay of a key row in the backward summary. -/
theorem dec3 (lf lb : ℝ) (a : ℕ) (ha : a < 1073741824) : decE lf lb 3 a = (Real.exp (lb * (a : ℝ)) : EReal) := by
  unfold decE rowE
  rw [if_neg (by decide), if_neg (by decide), if_neg (by decide), pos_real a (by omega), ← EReal.coe_mul, Ideal.exp_coe]

/-- The states from zero are the states from a given start. -/
theorem stF_eq (a : EReal) (kv : ℕ → EReal) (n : ℕ) : stF a kv n = stG 0 a kv n := by
  induction n with
  | zero => rfl
  | succ n ih => rw [stF, stG, ih]

/-- Forward states over stretches of length `L`. -/
theorem stG_fw (l : ℝ) (a : ℕ → ℝ) (L N K : ℕ) (s : EReal) (kv : ℕ → EReal) (hs : s = (fw l a N : EReal))
    (h : ∀ n < K, kv n = (kf l a L (N + L * n) : EReal)) (n : ℕ) (hn : n ≤ K) :
    stG s (Real.exp (l * L) : EReal) kv n = (fw l a (N + L * n) : EReal) := by
  induction n with
  | zero => rw [stG, hs, Nat.mul_zero, Nat.add_zero]
  | succ n ih =>
    rw [stG, ih (by omega), h n (by omega), ← EReal.coe_mul, ← EReal.coe_add, ← fw_add]
    congr 2; rw [Nat.mul_succ]; omega

/-- Backward states over stretches of length `L`. -/
theorem stG_bw (l : ℝ) (a : ℕ → ℝ) (S L N K : ℕ) (s : EReal) (kv : ℕ → EReal) (hs : s = (bw l a S N : EReal)) (hN : N ≤ S)
    (hK : L * K ≤ N) (h : ∀ n < K, kv n = (kb l a L (N - L * (n + 1)) : EReal)) (n : ℕ) (hn : n ≤ K) :
    stG s (Real.exp (l * L) : EReal) kv n = (bw l a S (N - L * n) : EReal) := by
  induction n with
  | zero => rw [stG, hs, Nat.mul_zero, Nat.sub_zero]
  | succ n ih =>
    have h1 : L * (n + 1) ≤ L * K := Nat.mul_le_mul_left L hn
    have h2 : L * (n + 1) = L * n + L := Nat.mul_succ L n
    rw [stG, ih (by omega), h n (by omega), ← EReal.coe_mul, ← EReal.coe_add,
      bw_add l a S (N - L * (n + 1)) L (by omega), show N - L * (n + 1) + L = N - L * n by omega]

/-- A forward summary from its entries. -/
theorem kf_of (l : ℝ) (a : ℕ → ℝ) (L N : ℕ) (f : Fin L → EReal)
    (hf : ∀ r, f r = ((Real.exp (l * ((L : ℝ) - 1 - (r.val : ℝ))) * a (N + r.val) : ℝ) : EReal)) : ∑ r, f r = (kf l a L N : EReal) := by
  unfold kf
  rw [Finset.sum_congr rfl fun r _ => hf r, coe_sum, Finset.sum_range]

/-- A backward summary from its entries. -/
theorem kb_of (l : ℝ) (a : ℕ → ℝ) (L N : ℕ) (f : Fin L → EReal)
    (hf : ∀ r, f r = ((Real.exp (l * (r.val : ℝ)) * a (N + r.val) : ℝ) : EReal)) : ∑ r, f r = (kb l a L N : EReal) := by
  unfold kb
  rw [Finset.sum_congr rfl fun r _ => hf r, coe_sum, Finset.sum_range]

end Cert.MixNum
end
-- ==== Proof.MixFin2.lean ====
module

public import proofs.«01_k».proof.Proof.MixStates

@[expose] public section
set_option maxRecDepth 16384
set_option maxHeartbeats 4000000
noncomputable section

/-!
# The states' array

The array of the third call, assembled from its blocks.
-/

namespace Cert.KernelIdeal.Mix

open Idealize.ShloMosaic Idealize.ShloMosaic.TcCoe Idealize.SL.Sem
open Cert.KernelIdeal Cert.KernelIdeal.Gen

/-- The state of a tile: a head's forward state, then its backward one. -/
def stA (LF LB : Vec Ideal S2x4 .f32) (KV : Vec Ideal S2x16x8x128x128 .bf16) (b : Fin 2) (t : Fin 16) (p : Fin 8) (d e : Fin 128) : EReal :=
  if p.val % 2 = 0 then
    stF (Ideal.exp (LF (ix2 0 ⟨p.val / 2, by omega⟩) * Ideal.ofBits .f32 0x44800000#32)) (fun n => KV (ix5 b ⟨n % 16, Nat.mod_lt _ (by decide)⟩ p d e)) t.val
  else
    stF (Ideal.exp (LB (ix2 0 ⟨p.val / 2, by omega⟩) * Ideal.ofBits .f32 0x44800000#32)) (fun n => KV (ix5 b ⟨(15 - n) % 16, Nat.mod_lt _ (by decide)⟩ p d e)) (15 - t.val)

variable (V : (c : Dev nD) → (b : Ref sig .tc) → Buf (Elt Ideal) ((c : Thread nD τ).loc b))

/-- The summaries' block at a grid point. -/
theorem idx2_2 : ∀ t : Fin grid2.N, win2_2.index t = ![t.val, 0, 0, 0, 0] := by decide +kernel
/-- The states' block at a grid point. -/
theorem idx2_3 : ∀ t : Fin grid2.N, win2_3.index t = ![t.val, 0, 0, 0, 0] := by decide +kernel
/-- The forward log decays' block is the array. -/
theorem rd2_0 (c : Dev nD) (t : Fin cfg2.N) (l : Fin 2) (h : Fin 4) : iblk2 V c 0 t (ix2 l h) = V c main_arg3 (ix2 l h) := by
  blk_ext! [iblk2, (by decide +kernel : ∀ t : Fin grid2.N, win2_0.index t = ![0, 0]) t]
/-- The backward log decays' block is the array. -/
theorem rd2_1 (c : Dev nD) (t : Fin cfg2.N) (l : Fin 2) (h : Fin 4) : iblk2 V c 1 t (ix2 l h) = V c main_arg4 (ix2 l h) := by
  blk_ext! [iblk2, (by decide +kernel : ∀ t : Fin grid2.N, win2_1.index t = ![0, 0]) t]
/-- The summaries' block is one sequence's. -/
theorem rd2_2 (c : Dev nD) (t : Fin cfg2.N) (b : Fin 2) (hb : b.val = t.val) (z : Fin 1) (u : Fin 16) (p : Fin 8) (d e : Fin 128) :
    iblk2 V c 2 t (ix5 z u p d e) = V c main_v54_5 (ix5 b u p d e) := by
  blk_ext! [iblk2, idx2_2 t]

/-- The states' array. -/
theorem st_final (c : Dev nD) : (dat2 V c).arrAt 3 cfg2.N =
    fun i => stA (V c main_arg3) (V c main_arg4) (V c main_v54_5) (i 0) (i 1) (i 2) (i 3) (i 4) := by
  refine (dat2 V c).arrAt_eq_of_covers 3 _ (by decide +kernel) fun t hf y => ?_
  show (dat2 V c).after _ t y = _
  rw [after2_3]
  unfold outsAt2
  idx_vars y
  have e0 : (((cfg2.win 3).blk t).view.emb (ix5 y0 y1 y2 y3 y4) 0 : ℕ) = t.val := by blk_simp [idx2_3 t]
  have e1 : ((cfg2.win 3).blk t).view.emb (ix5 y0 y1 y2 y3 y4) 1 = y1 := by apply Fin.ext; blk_simp [idx2_3 t]
  have e2 : ((cfg2.win 3).blk t).view.emb (ix5 y0 y1 y2 y3 y4) 2 = y2 := by apply Fin.ext; blk_simp [idx2_3 t]
  have e3 : ((cfg2.win 3).blk t).view.emb (ix5 y0 y1 y2 y3 y4) 3 = y3 := by apply Fin.ext; blk_simp [idx2_3 t]
  have e4 : ((cfg2.win 3).blk t).view.emb (ix5 y0 y1 y2 y3 y4) 4 = y4 := by apply Fin.ext; blk_simp [idx2_3 t]
  rw [e1, e2, e3, e4]
  generalize ((cfg2.win 3).blk t).view.emb (ix5 y0 y1 y2 y3 y4) 0 = b at e0 ⊢
  unfold stA
  by_cases hp : y2.val % 2 = 0
  · rw [if_pos hp]
    refine (out2_fwd c _ _ _ _ _ _ _ _ _ _ _ _ y0 y1 ⟨y2.val / 2, by omega⟩ y2 (by dsimp only; omega) y3 y4).trans ?_
    exact congr (congrArg₂ stF (congrArg (fun z => Ideal.exp (z * _)) (rd2_0 V c t 0 _)) (funext fun n => rd2_2 V c t b e0 _ _ _ _ _)) rfl
  · rw [if_neg hp]
    refine (out2_bwd c _ _ _ _ _ _ _ _ _ _ _ _ y0 y1 ⟨y2.val / 2, by omega⟩ y2 (by dsimp only; omega) y3 y4).trans ?_
    exact congr (congrArg₂ stF (congrArg (fun z => Ideal.exp (z * _)) (rd2_1 V c t 0 _)) (funext fun n => rd2_2 V c t b e0 _ _ _ _ _)) rfl

end Cert.KernelIdeal.Mix
end
-- ==== Proof.MixIn.lean ====
module

public import proofs.«01_k».proof.Proof.Gen.KernelIdeal.Frame
public import proofs.«01_k».proof.Proof.Rows
public import Idealize.ShloMosaic.Lib.Tactic
public import Idealize.ShloMosaic.Lib.Pipeline.ValueKit

@[expose] public section
set_option maxRecDepth 65536
set_option maxHeartbeats 8000000
noncomputable section

/-!
# The projections of a tile

What the second call leaves for a tile: the rotated queries and keys, the values, the gates, and the two summaries of
every head.
-/

namespace Cert.KernelIdeal.Mix

open Idealize.ShloMosaic Idealize.ShloMosaic.TcCoe Idealize.SL.Sem
open Cert.KernelIdeal Cert.KernelIdeal.Gen

/-- A projection of a tile's row. -/
def pj (x2 : Vec Ideal S1x1024x1024 .f32) (x3 : Vec Ideal S1x1x1024 .f32) (x4 : Vec Ideal S1x1024x2560 .bf16) (r : Fin 1024) (col : Fin 2560) : EReal :=
  Rows.proj (fun j => x2 (ix3 0 r j)) (fun j => x3 (ix3 0 0 j)) (fun j => x4 (ix3 0 j col))

/-- The cosine of a row and a dimension from the two tables. -/
def cosT (x5 : Vec Ideal S1x2x8x128 .f32) (x6 : Vec Ideal S4x1024x128 .f32) (r : Fin 1024) (d : Fin 128) : EReal :=
  x5 (ix4 0 0 0 d) * x6 (ix3 0 r d) - x5 (ix4 0 1 0 d) * x6 (ix3 1 r d)

/-- The signed sine of a row and a dimension from the two tables. -/
def sinT (x5 : Vec Ideal S1x2x8x128 .f32) (x6 : Vec Ideal S4x1024x128 .f32) (r : Fin 1024) (d : Fin 128) : EReal :=
  x5 (ix4 0 1 0 d) * x6 (ix3 2 r d) + x5 (ix4 0 0 0 d) * x6 (ix3 3 r d)

/-- The rotated query of a row, head and dimension. -/
def rq (x2 : Vec Ideal S1x1024x1024 .f32) (x3 : Vec Ideal S1x1x1024 .f32) (x4 : Vec Ideal S1x1024x2560 .bf16) (x5 : Vec Ideal S1x2x8x128 .f32) (x6 : Vec Ideal S4x1024x128 .f32) (r : Fin 1024) (h : Fin 4) (d : Fin 128) : EReal :=
  pj x2 x3 x4 r ⟨128 * h.val + d.val, by omega⟩ * cosT x5 x6 r d + pj x2 x3 x4 r ⟨128 * h.val + (d.val + 64) % 128, by omega⟩ * sinT x5 x6 r d

/-- The rotated and scaled key of a row, head and dimension. -/
def rk (x2 : Vec Ideal S1x1024x1024 .f32) (x3 : Vec Ideal S1x1x1024 .f32) (x4 : Vec Ideal S1x1024x2560 .bf16) (x5 : Vec Ideal S1x2x8x128 .f32) (x6 : Vec Ideal S4x1024x128 .f32) (r : Fin 1024) (h : Fin 4) (d : Fin 128) : EReal :=
  (pj x2 x3 x4 r ⟨512 + 128 * h.val + d.val, by omega⟩ * cosT x5 x6 r d +
    pj x2 x3 x4 r ⟨512 + 128 * h.val + (d.val + 64) % 128, by omega⟩ * sinT x5 x6 r d) * Ideal.ofBits .f32 0x3DB504F3#32

/-- The values. -/
theorem out1_v (c : Dev nD) (i : grid1.Coords) (arg2 : Memref sig .tc .smem S2x4 .f32) (harg2 : arg2.IsWhole) (arg3 : Memref sig .tc .smem S2x4 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x2560 .bf16) (harg6 : arg6.IsWhole) (arg7 : Memref sig .tc .vmem S1x2x8x128 .f32) (harg7 : arg7.IsWhole) (arg8 : Memref sig .tc .vmem S4x1024x128 .f32) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1x8x128x128 .bf16) (harg14 : arg14.IsWhole)
    (x0 : Vec Ideal S2x4 .f32) (x1 : Vec Ideal S2x4 .f32) (x2 : Vec Ideal S1x1024x1024 .f32) (x3 : Vec Ideal S1x1x1024 .f32) (x4 : Vec Ideal S1x1024x2560 .bf16) (x5 : Vec Ideal S1x2x8x128 .f32) (x6 : Vec Ideal S4x1024x128 .f32) (z : Fin 1) (r : Fin 1024) (col : Fin 512) :
    out1_A_9 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 (ix3 z r col) =
      pj x2 x3 x4 r ⟨1024 + col.val, by omega⟩ := by
  frame_out
  all_goals pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45]
  all_goals unfold pj  Rows.proj Rows.rms
  all_goals blk_point []

/-- The gates. -/
theorem out1_gs (c : Dev nD) (i : grid1.Coords) (arg2 : Memref sig .tc .smem S2x4 .f32) (harg2 : arg2.IsWhole) (arg3 : Memref sig .tc .smem S2x4 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x2560 .bf16) (harg6 : arg6.IsWhole) (arg7 : Memref sig .tc .vmem S1x2x8x128 .f32) (harg7 : arg7.IsWhole) (arg8 : Memref sig .tc .vmem S4x1024x128 .f32) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1x8x128x128 .bf16) (harg14 : arg14.IsWhole)
    (x0 : Vec Ideal S2x4 .f32) (x1 : Vec Ideal S2x4 .f32) (x2 : Vec Ideal S1x1024x1024 .f32) (x3 : Vec Ideal S1x1x1024 .f32) (x4 : Vec Ideal S1x1024x2560 .bf16) (x5 : Vec Ideal S1x2x8x128 .f32) (x6 : Vec Ideal S4x1024x128 .f32) (z : Fin 1) (r : Fin 1024) (col : Fin 512) :
    out1_A_10 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 (ix3 z r col) =
      pj x2 x3 x4 r ⟨1536 + col.val, by omega⟩ := by
  frame_out
  all_goals pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45]
  all_goals unfold pj  Rows.proj Rows.rms
  all_goals blk_point []

/-- The rotated queries. -/
theorem out1_q (c : Dev nD) (i : grid1.Coords) (arg2 : Memref sig .tc .smem S2x4 .f32) (harg2 : arg2.IsWhole) (arg3 : Memref sig .tc .smem S2x4 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x2560 .bf16) (harg6 : arg6.IsWhole) (arg7 : Memref sig .tc .vmem S1x2x8x128 .f32) (harg7 : arg7.IsWhole) (arg8 : Memref sig .tc .vmem S4x1024x128 .f32) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1x8x128x128 .bf16) (harg14 : arg14.IsWhole)
    (x0 : Vec Ideal S2x4 .f32) (x1 : Vec Ideal S2x4 .f32) (x2 : Vec Ideal S1x1024x1024 .f32) (x3 : Vec Ideal S1x1x1024 .f32) (x4 : Vec Ideal S1x1024x2560 .bf16) (x5 : Vec Ideal S1x2x8x128 .f32) (x6 : Vec Ideal S4x1024x128 .f32) (z : Fin 1) (r : Fin 1024) (h : Fin 4) (d : Fin 128) (col : Fin 512) (hc : col.val = 128 * h.val + d.val) :
    out1_A_7 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 (ix3 z r col) =
      rq x2 x3 x4 x5 x6 r h d := by
  frame_out
  canon_tiles x hx
  all_goals idx_vars x
  all_goals first | (exfalso; omega) | skip
  all_goals pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45]
  all_goals unfold rq cosT sinT pj Rows.proj Rows.rms
  all_goals blk_point [] <;> blk_point []

/-- The rotated keys. -/
theorem out1_k (c : Dev nD) (i : grid1.Coords) (arg2 : Memref sig .tc .smem S2x4 .f32) (harg2 : arg2.IsWhole) (arg3 : Memref sig .tc .smem S2x4 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x2560 .bf16) (harg6 : arg6.IsWhole) (arg7 : Memref sig .tc .vmem S1x2x8x128 .f32) (harg7 : arg7.IsWhole) (arg8 : Memref sig .tc .vmem S4x1024x128 .f32) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1x8x128x128 .bf16) (harg14 : arg14.IsWhole)
    (x0 : Vec Ideal S2x4 .f32) (x1 : Vec Ideal S2x4 .f32) (x2 : Vec Ideal S1x1024x1024 .f32) (x3 : Vec Ideal S1x1x1024 .f32) (x4 : Vec Ideal S1x1024x2560 .bf16) (x5 : Vec Ideal S1x2x8x128 .f32) (x6 : Vec Ideal S4x1024x128 .f32) (z : Fin 1) (r : Fin 1024) (h : Fin 4) (d : Fin 128) (col : Fin 512) (hc : col.val = 128 * h.val + d.val) :
    out1_A_8 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 (ix3 z r col) =
      rk x2 x3 x4 x5 x6 r h d := by
  frame_out
  canon_tiles x hx
  all_goals idx_vars x
  all_goals first | (exfalso; omega) | skip
  all_goals pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45]
  all_goals unfold rk cosT sinT pj Rows.proj Rows.rms
  all_goals blk_point [] <;> blk_point []

/-- The forward summaries. -/
theorem out1_kvf (c : Dev nD) (i : grid1.Coords) (arg2 : Memref sig .tc .smem S2x4 .f32) (harg2 : arg2.IsWhole) (arg3 : Memref sig .tc .smem S2x4 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x2560 .bf16) (harg6 : arg6.IsWhole) (arg7 : Memref sig .tc .vmem S1x2x8x128 .f32) (harg7 : arg7.IsWhole) (arg8 : Memref sig .tc .vmem S4x1024x128 .f32) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1x8x128x128 .bf16) (harg14 : arg14.IsWhole)
    (x0 : Vec Ideal S2x4 .f32) (x1 : Vec Ideal S2x4 .f32) (x2 : Vec Ideal S1x1024x1024 .f32) (x3 : Vec Ideal S1x1x1024 .f32) (x4 : Vec Ideal S1x1024x2560 .bf16) (x5 : Vec Ideal S1x2x8x128 .f32) (x6 : Vec Ideal S4x1024x128 .f32) (z z' : Fin 1) (h : Fin 4) (p : Fin 8) (hp : p.val = 2 * h.val) (d e : Fin 128) :
    out1_A_12 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 (ix5 z z' p d e) =
      ∑ r : Fin 1024, rk x2 x3 x4 x5 x6 r h d * Ideal.exp (x0 (ix2 0 h) * (Ideal.ofBits .f32 0x447FC000#32 - FloatOps.sitofp (F := Ideal) .f32 (BitVec.ofNat 32 r.val))) * pj x2 x3 x4 r ⟨1024 + 128 * h.val + e.val, by omega⟩ := by
  frame_out
  canon_tiles x hx
  all_goals idx_vars x
  all_goals first | (exfalso; omega) | skip
  all_goals pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45]
  all_goals unfold rk cosT sinT pj Rows.proj Rows.rms
  all_goals blk_point [] <;> blk_point [] <;> blk_point []

/-- The backward summaries. -/
theorem out1_kvb (c : Dev nD) (i : grid1.Coords) (arg2 : Memref sig .tc .smem S2x4 .f32) (harg2 : arg2.IsWhole) (arg3 : Memref sig .tc .smem S2x4 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x2560 .bf16) (harg6 : arg6.IsWhole) (arg7 : Memref sig .tc .vmem S1x2x8x128 .f32) (harg7 : arg7.IsWhole) (arg8 : Memref sig .tc .vmem S4x1024x128 .f32) (harg8 : arg8.IsWhole) (arg9 : Memref sig .tc .vmem S1x1024x512 .bf16) (harg9 : arg9.IsWhole) (arg10 : Memref sig .tc .vmem S1x1024x512 .bf16) (harg10 : arg10.IsWhole) (arg11 : Memref sig .tc .vmem S1x1024x512 .bf16) (harg11 : arg11.IsWhole) (arg12 : Memref sig .tc .vmem S1x1024x512 .bf16) (harg12 : arg12.IsWhole) (arg13 : Memref sig .tc .vmem S1x1024x512 .bf16) (harg13 : arg13.IsWhole) (arg14 : Memref sig .tc .vmem S1x1x8x128x128 .bf16) (harg14 : arg14.IsWhole)
    (x0 : Vec Ideal S2x4 .f32) (x1 : Vec Ideal S2x4 .f32) (x2 : Vec Ideal S1x1024x1024 .f32) (x3 : Vec Ideal S1x1x1024 .f32) (x4 : Vec Ideal S1x1024x2560 .bf16) (x5 : Vec Ideal S1x2x8x128 .f32) (x6 : Vec Ideal S4x1024x128 .f32) (z z' : Fin 1) (h : Fin 4) (p : Fin 8) (hp : p.val = 2 * h.val + 1) (d e : Fin 128) :
    out1_A_12 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 (ix5 z z' p d e) =
      ∑ r : Fin 1024, rk x2 x3 x4 x5 x6 r h d * Ideal.exp (x1 (ix2 0 h) * FloatOps.sitofp (F := Ideal) .f32 (BitVec.ofNat 32 r.val)) * pj x2 x3 x4 r ⟨1024 + 128 * h.val + e.val, by omega⟩ := by
  frame_out
  canon_tiles x hx
  all_goals idx_vars x
  all_goals first | (exfalso; omega) | skip
  all_goals pointwise [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45]
  all_goals unfold rk cosT sinT pj Rows.proj Rows.rms
  all_goals blk_point [] <;> blk_point [] <;> blk_point []

end Cert.KernelIdeal.Mix
-- ==== Proof.MixArr1.lean ====
module

public import proofs.«01_k».proof.Proof.MixIn

@[expose] public section
set_option maxRecDepth 16384
set_option maxHeartbeats 4000000
noncomputable section

/-!
# The arrays of the projections

What the second call leaves in its output arrays, entry by entry, from the arrays it reads.
-/

namespace Cert.KernelIdeal.Mix

open Idealize.ShloMosaic Idealize.ShloMosaic.TcCoe Idealize.SL.Sem
open Cert.KernelIdeal Cert.KernelIdeal.Gen

section arrays

variable (X : Vec Ideal S2x16384x1024 .f32) (G : Vec Ideal S2x1x1024 .f32) (W : Vec Ideal S2x1024x2560 .bf16)
  (B : Vec Ideal S16x2x8x128 .f32) (T : Vec Ideal S4x1024x128 .f32)

/-- A projection of a token. -/
def pA (b : Fin 2) (n : Fin 16384) (col : Fin 2560) : EReal :=
  Rows.proj (fun j => X (ix3 b n j)) (fun j => G (ix3 0 0 j)) (fun j => W (ix3 0 j col))

/-- The tile of a token. -/
def tileOf (n : Fin 16384) : Fin 16 := ⟨n.val / 1024, by omega⟩

/-- The row of a token in its tile. -/
def rowOf (n : Fin 16384) : Fin 1024 := ⟨n.val % 1024, by omega⟩

/-- The token of a tile's row. -/
def tok (t : Fin 16) (r : Fin 1024) : Fin 16384 := ⟨1024 * t.val + r.val, by omega⟩

/-- The cosine of a token and a dimension. -/
def cA (n : Fin 16384) (d : Fin 128) : EReal :=
  B (ix4 (tileOf n) 0 0 d) * T (ix3 0 (rowOf n) d) - B (ix4 (tileOf n) 1 0 d) * T (ix3 1 (rowOf n) d)

/-- The signed sine of a token and a dimension. -/
def sA (n : Fin 16384) (d : Fin 128) : EReal :=
  B (ix4 (tileOf n) 1 0 d) * T (ix3 2 (rowOf n) d) + B (ix4 (tileOf n) 0 0 d) * T (ix3 3 (rowOf n) d)

/-- The rotated query of a token, head and dimension. -/
def qA (b : Fin 2) (n : Fin 16384) (h : Fin 4) (d : Fin 128) : EReal :=
  pA X G W b n ⟨128 * h.val + d.val, by omega⟩ * cA B T n d +
    pA X G W b n ⟨128 * h.val + (d.val + 64) % 128, by omega⟩ * sA B T n d

/-- The rotated and scaled key of a token, head and dimension. -/
def kA (b : Fin 2) (n : Fin 16384) (h : Fin 4) (d : Fin 128) : EReal :=
  (pA X G W b n ⟨512 + 128 * h.val + d.val, by omega⟩ * cA B T n d +
    pA X G W b n ⟨512 + 128 * h.val + (d.val + 64) % 128, by omega⟩ * sA B T n d) * Ideal.ofBits .f32 0x3DB504F3#32

/-- A tile's summary for the forward state of a head. -/
def kvfA (LF : Vec Ideal S2x4 .f32) (b : Fin 2) (t : Fin 16) (h : Fin 4) (d e : Fin 128) : EReal :=
  ∑ r : Fin 1024, kA X G W B T b (tok t r) h d *
    Ideal.exp (LF (ix2 0 h) * (Ideal.ofBits .f32 0x447FC000#32 - FloatOps.sitofp (F := Ideal) .f32 (BitVec.ofNat 32 r.val))) *
    pA X G W b (tok t r) ⟨1024 + 128 * h.val + e.val, by omega⟩

/-- A tile's summary for the backward state of a head. -/
def kvbA (LB : Vec Ideal S2x4 .f32) (b : Fin 2) (t : Fin 16) (h : Fin 4) (d e : Fin 128) : EReal :=
  ∑ r : Fin 1024, kA X G W B T b (tok t r) h d *
    Ideal.exp (LB (ix2 0 h) * FloatOps.sitofp (F := Ideal) .f32 (BitVec.ofNat 32 r.val)) *
    pA X G W b (tok t r) ⟨1024 + 128 * h.val + e.val, by omega⟩

/-- The projected value of a token and a column. -/
def vF (b : Fin 2) (n : Fin 16384) (col : Fin 512) : EReal := pA X G W b n ⟨1024 + col.val, by omega⟩

/-- The projected gate of a token and a column. -/
def gF (b : Fin 2) (n : Fin 16384) (col : Fin 512) : EReal := pA X G W b n ⟨1536 + col.val, by omega⟩

/-- The rotated query of a token and a column. -/
def qF (b : Fin 2) (n : Fin 16384) (col : Fin 512) : EReal :=
  qA X G W B T b n ⟨col.val / 128, by omega⟩ ⟨col.val % 128, by omega⟩

/-- The rotated key of a token and a column. -/
def kF (b : Fin 2) (n : Fin 16384) (col : Fin 512) : EReal :=
  kA X G W B T b n ⟨col.val / 128, by omega⟩ ⟨col.val % 128, by omega⟩

/-- The two summaries of a tile's heads. -/
def kvF (LF LB : Vec Ideal S2x4 .f32) (b : Fin 2) (t : Fin 16) (p : Fin 8) (d e : Fin 128) : EReal :=
  if p.val % 2 = 0 then kvfA X G W B T LF b t ⟨p.val / 2, by omega⟩ d e
  else kvbA X G W B T LB b t ⟨p.val / 2, by omega⟩ d e

variable {X G W B T}
variable {x2 : Vec Ideal S1x1024x1024 .f32} {x3 : Vec Ideal S1x1x1024 .f32} {x4 : Vec Ideal S1x1024x2560 .bf16}
  {x5 : Vec Ideal S1x2x8x128 .f32} {x6 : Vec Ideal S4x1024x128 .f32} {b : Fin 2} {n : Fin 16384} {r : Fin 1024}

/-- A projection of a tile's row is the token's. -/
theorem pj_of (hx : ∀ j, x2 (ix3 0 r j) = X (ix3 b n j)) (hg : ∀ j, x3 (ix3 0 0 j) = G (ix3 0 0 j))
    (hw : ∀ j col, x4 (ix3 0 j col) = W (ix3 0 j col)) (col : Fin 2560) : pj x2 x3 x4 r col = pA X G W b n col := by
  unfold pj pA; simp only [hx, hg, hw]

/-- A tile's rotated query is the token's. -/
theorem rq_of (hx : ∀ j, x2 (ix3 0 r j) = X (ix3 b n j)) (hg : ∀ j, x3 (ix3 0 0 j) = G (ix3 0 0 j))
    (hw : ∀ j col, x4 (ix3 0 j col) = W (ix3 0 j col)) (hb : ∀ p d, x5 (ix4 0 p 0 d) = B (ix4 (tileOf n) p 0 d))
    (ht : ∀ p d, x6 (ix3 p r d) = T (ix3 p (rowOf n) d)) (h : Fin 4) (d : Fin 128) :
    rq x2 x3 x4 x5 x6 r h d = qA X G W B T b n h d := by
  unfold rq qA cosT sinT cA sA; simp only [pj_of hx hg hw, hb, ht]

/-- A tile's rotated key is the token's. -/
theorem rk_of (hx : ∀ j, x2 (ix3 0 r j) = X (ix3 b n j)) (hg : ∀ j, x3 (ix3 0 0 j) = G (ix3 0 0 j))
    (hw : ∀ j col, x4 (ix3 0 j col) = W (ix3 0 j col)) (hb : ∀ p d, x5 (ix4 0 p 0 d) = B (ix4 (tileOf n) p 0 d))
    (ht : ∀ p d, x6 (ix3 p r d) = T (ix3 p (rowOf n) d)) (h : Fin 4) (d : Fin 128) :
    rk x2 x3 x4 x5 x6 r h d = kA X G W B T b n h d := by
  unfold rk kA cosT sinT cA sA; simp only [pj_of hx hg hw, hb, ht]

end arrays

variable (V : (c : Dev nD) → (b : Ref sig .tc) → Buf (Elt Ideal) ((c : Thread nD τ).loc b))

/-- The tokens' block at a grid point. -/
theorem idx1_2 : ∀ t : Fin grid1.N, win1_2.index t = ![t.val / 16, t.val % 16, 0] := by decide +kernel
/-- The base table's block at a grid point. -/
theorem idx1_5 : ∀ t : Fin grid1.N, win1_5.index t = ![t.val % 16, 0, 0, 0] := by decide +kernel
/-- The queries' block at a grid point. -/
theorem idx1_7 : ∀ t : Fin grid1.N, win1_7.index t = ![t.val / 16, t.val % 16, 0] := by decide +kernel
/-- The keys' block at a grid point. -/
theorem idx1_8 : ∀ t : Fin grid1.N, win1_8.index t = ![t.val / 16, t.val % 16, 0] := by decide +kernel
/-- The values' block at a grid point. -/
theorem idx1_9 : ∀ t : Fin grid1.N, win1_9.index t = ![t.val / 16, t.val % 16, 0] := by decide +kernel
/-- The gates' block at a grid point. -/
theorem idx1_10 : ∀ t : Fin grid1.N, win1_10.index t = ![t.val / 16, t.val % 16, 0] := by decide +kernel
/-- The summaries' block at a grid point. -/
theorem idx1_12 : ∀ t : Fin grid1.N, win1_12.index t = ![t.val / 16, t.val % 16, 0, 0, 0] := by decide +kernel

/-- The forward log decays' block is the array. -/
theorem rd1_0 (c : Dev nD) (t : Fin cfg1.N) (l : Fin 2) (h : Fin 4) : iblk1 V c 0 t (ix2 l h) = V c main_arg3 (ix2 l h) := by
  blk_ext! [iblk1, (by decide +kernel : ∀ t : Fin grid1.N, win1_0.index t = ![0, 0]) t]
/-- The backward log decays' block is the array. -/
theorem rd1_1 (c : Dev nD) (t : Fin cfg1.N) (l : Fin 2) (h : Fin 4) : iblk1 V c 1 t (ix2 l h) = V c main_arg4 (ix2 l h) := by
  blk_ext! [iblk1, (by decide +kernel : ∀ t : Fin grid1.N, win1_1.index t = ![0, 0]) t]
/-- A tile's row is its token. -/
theorem rd1_2 (c : Dev nD) (t : Fin cfg1.N) (b : Fin 2) (n : Fin 16384) (r : Fin 1024) (hb : b.val = t.val / 16)
    (hn : n.val = 1024 * (t.val % 16) + r.val) (j : Fin 1024) :
    iblk1 V c 2 t (ix3 0 r j) = V c main_arg0 (ix3 b n j) := by
  blk_ext! [iblk1, idx1_2 t]
/-- The gain's block is layer 0. -/
theorem rd1_3 (c : Dev nD) (t : Fin cfg1.N) (j : Fin 1024) : iblk1 V c 3 t (ix3 0 0 j) = V c main_v8 (ix3 0 0 j) := by
  blk_ext! [iblk1, (by decide +kernel : ∀ t : Fin grid1.N, win1_3.index t = ![0, 0, 0]) t]
/-- The projection's block is layer 0. -/
theorem rd1_4 (c : Dev nD) (t : Fin cfg1.N) (j : Fin 1024) (col : Fin 2560) :
    iblk1 V c 4 t (ix3 0 j col) = V c main_v7 (ix3 0 j col) := by
  blk_ext! [iblk1, (by decide +kernel : ∀ t : Fin grid1.N, win1_4.index t = ![0, 0, 0]) t]
/-- The base table's block is the tile's row. -/
theorem rd1_5 (c : Dev nD) (t : Fin cfg1.N) (u : Fin 16) (hu : u.val = t.val % 16) (p : Fin 2) (d : Fin 128) :
    iblk1 V c 5 t (ix4 0 p 0 d) = V c main_v37 (ix4 u p 0 d) := by
  blk_ext! [iblk1, idx1_5 t]
/-- The row table's block is the table. -/
theorem rd1_6 (c : Dev nD) (t : Fin cfg1.N) (p : Fin 4) (r : Fin 1024) (d : Fin 128) :
    iblk1 V c 6 t (ix3 p r d) = V c main_v53 (ix3 p r d) := by
  blk_ext! [iblk1, (by decide +kernel : ∀ t : Fin grid1.N, win1_6.index t = ![0, 0, 0]) t]

end Cert.KernelIdeal.Mix
end
-- ==== Proof.MixFin3.lean ====
module

public import proofs.«01_k».proof.Proof.MixArr1
public import proofs.«01_k».proof.Proof.MixOut

@[expose] public section
set_option maxRecDepth 16384
set_option maxHeartbeats 4000000
noncomputable section

/-!
# The mixer's output array

The array of the last call, from the arrays it reads.
-/

namespace Cert.KernelIdeal.Mix

open Idealize.ShloMosaic Idealize.ShloMosaic.TcCoe Idealize.SL.Sem
open Cert.KernelIdeal Cert.KernelIdeal.Gen

section arrays

variable (LF LB : Vec Ideal S2x4 .f32) (X : Vec Ideal S2x16384x1024 .f32) (G : Vec Ideal S2x1x1024 .f32)
  (Q K VV GS : Vec Ideal S2x16384x512 .bf16) (ST : Vec Ideal S2x16x8x128x128 .f32) (MA : Vec Ideal S2x4x256x256 .f32)
  (DE : Vec Ideal S2x4x4x256x128 .bf16) (FR : Vec Ideal S2x16384x512 .bf16) (WG : Vec Ideal S2x1024x2048 .bf16)
  (WR WF : Vec Ideal S2x512x1024 .bf16) (WM : Vec Ideal S2x1024x1024 .bf16)

/-- The summary of a tile's chunk under a decay table. -/
def ckvA (b : Fin 2) (t : Fin 16) (w : Fin 4) (h : Fin 4) (d e : Fin 128) (n : ℕ) : EReal :=
  ∑ r : Fin 256, K (ix3 b (tok t (crow n r)) (hcol h d)) * DE (ix5 0 h w r d) * VV (ix3 b (tok t (crow n r)) (hcol h e))

/-- The state in front of a tile's chunk. -/
def fwA (b : Fin 2) (t : Fin 16) (h : Fin 4) (d e : Fin 128) (n : ℕ) : EReal :=
  stG (ST (ix5 b t ⟨2 * h.val, by omega⟩ d e)) (Ideal.exp (LF (ix2 0 h) * Ideal.ofBits .f32 0x43800000#32)) (ckvA K VV DE b t 2 h d e) n

/-- The state behind a tile's chunk. -/
def bwA (b : Fin 2) (t : Fin 16) (h : Fin 4) (d e : Fin 128) (n : ℕ) : EReal :=
  stG (ST (ix5 b t ⟨2 * h.val + 1, by omega⟩ d e)) (Ideal.exp (LB (ix2 0 h) * Ideal.ofBits .f32 0x43800000#32)) (fun k => ckvA K VV DE b t 3 h d e (3 - k)) (3 - n)

/-- The retention of a row of a tile's chunk. -/
def yA (b : Fin 2) (t : Fin 16) (h : Fin 4) (n : ℕ) (r : Fin 256) (e : Fin 128) : EReal :=
  (∑ j : Fin 256, (∑ d : Fin 128, Q (ix3 b (tok t (crow n r)) (hcol h d)) * K (ix3 b (tok t (crow n j)) (hcol h d))) * MA (ix4 0 h r j) * VV (ix3 b (tok t (crow n j)) (hcol h e))) +
  ((∑ d : Fin 128, Q (ix3 b (tok t (crow n r)) (hcol h d)) * DE (ix5 0 h 0 r d) * fwA LF K VV ST DE b t h d e n) +
    ∑ d : Fin 128, Q (ix3 b (tok t (crow n r)) (hcol h d)) * DE (ix5 0 h 1 r d) * bwA LB K VV ST DE b t h d e n)

/-- The gated retention of a tile's row. -/
def retA (b : Fin 2) (t : Fin 16) (r : Fin 1024) (col : Fin 512) : EReal :=
  GS (ix3 b (tok t r) col) * Ideal.logistic (GS (ix3 b (tok t r) col)) *
    gn (yA LF LB Q K VV ST MA DE b t ⟨col.val / 128, by omega⟩ (r.val / 256) ⟨r.val % 256, by omega⟩) ⟨col.val % 128, by omega⟩

/-- The merged row of a token. -/
def mrgA (ret : Fin 512 → EReal) (b : Fin 2) (n : Fin 16384) (j : Fin 1024) : EReal :=
  Ideal.logistic (Rows.proj (fun k => X (ix3 b n k)) (fun k => G (ix3 0 0 k)) (fun k => WG (ix3 0 k ⟨j.val, by omega⟩))) * (∑ k, ret k * WR (ix3 0 k j)) +
  Ideal.logistic (Rows.proj (fun k => X (ix3 b n k)) (fun k => G (ix3 0 0 k)) (fun k => WG (ix3 0 k ⟨1024 + j.val, by omega⟩))) * (∑ k, FR (ix3 b n k) * WF (ix3 0 k j))

/-- The mixer's output for a token and a column. -/
def oF (b : Fin 2) (n : Fin 16384) (col : Fin 1024) : EReal :=
  X (ix3 b n col) + ∑ j : Fin 1024, mrgA X G FR WG WR WF (retA LF LB Q K VV GS ST MA DE b (tileOf n) (rowOf n)) b n j * WM (ix3 0 j col)

variable {LF LB X G Q K VV GS ST MA DE FR WG WR WF WM}
variable {x0 x1 : Vec Ideal S2x4 .f32} {x2 : Vec Ideal S1x1024x1024 .f32} {x3 : Vec Ideal S1x1x1024 .f32}
  {x4 x5 x6 x7 : Vec Ideal S1x1024x512 .bf16} {x8 : Vec Ideal S1x1x8x128x128 .f32} {x9 : Vec Ideal S1x4x256x256 .f32}
  {x10 : Vec Ideal S1x4x4x256x128 .bf16} {x11 : Vec Ideal S1x1024x512 .bf16} {x12 : Vec Ideal S1x1024x2048 .bf16}
  {x13 x14 : Vec Ideal S1x512x1024 .bf16} {b : Fin 2} {t : Fin 16}

/-- A tile's gated retention from the arrays. -/
theorem retC_of (h0 : ∀ l h, x0 (ix2 l h) = LF (ix2 l h)) (h1 : ∀ l h, x1 (ix2 l h) = LB (ix2 l h))
    (h4 : ∀ r j, x4 (ix3 0 r j) = Q (ix3 b (tok t r) j)) (h5 : ∀ r j, x5 (ix3 0 r j) = K (ix3 b (tok t r) j))
    (h6 : ∀ r j, x6 (ix3 0 r j) = VV (ix3 b (tok t r) j)) (h7 : ∀ r j, x7 (ix3 0 r j) = GS (ix3 b (tok t r) j))
    (h8 : ∀ p d e, x8 (ix5 0 0 p d e) = ST (ix5 b t p d e)) (h9 : ∀ h r j, x9 (ix4 0 h r j) = MA (ix4 0 h r j))
    (h10 : ∀ h w r d, x10 (ix5 0 h w r d) = DE (ix5 0 h w r d)) (r : Fin 1024) :
    retC x0 x1 x4 x5 x6 x8 x9 x10 x7 r = retA LF LB Q K VV GS ST MA DE b t r := by
  funext col
  have hk : ∀ w h d e, ckv x5 x6 x10 w h d e = ckvA K VV DE b t w h d e := fun w h d e => by
    funext n; unfold ckv ckvA; simp only [h5, h6, h10]
  unfold retC retA
  have hy : ∀ h n r, yC x0 x1 x4 x5 x6 x8 x9 x10 h n r = yA LF LB Q K VV ST MA DE b t h n r := fun h n r => by
    funext e
    unfold yC yA fwC bwC fwA bwA
    simp only [h0, h1, h4, h5, h6, h8, h9, h10, hk]
  rw [h7, hy]

/-- A tile's merged row from the arrays. -/
theorem mrgC_of {n : Fin 16384} {r : Fin 1024} (h2 : ∀ j, x2 (ix3 0 r j) = X (ix3 b n j)) (h3 : ∀ j, x3 (ix3 0 0 j) = G (ix3 0 0 j))
    (h11 : ∀ j, x11 (ix3 0 r j) = FR (ix3 b n j)) (h12 : ∀ j k, x12 (ix3 0 j k) = WG (ix3 0 j k))
    (h13 : ∀ j k, x13 (ix3 0 j k) = WR (ix3 0 j k)) (h14 : ∀ j k, x14 (ix3 0 j k) = WF (ix3 0 j k)) (ret : Fin 512 → EReal) (j : Fin 1024) :
    mrgC x2 x3 x11 x12 x13 x14 ret r j = mrgA X G FR WG WR WF ret b n j := by
  unfold mrgC mrgA; simp only [h2, h3, h11, h12, h13, h14]

end arrays

variable (V : (c : Dev nD) → (b : Ref sig .tc) → Buf (Elt Ideal) ((c : Thread nD τ).loc b))

/-- The output's block at a grid point. -/
theorem idx3_16 : ∀ t : Fin grid3.N, win3_16.index t = ![t.val / 16, t.val % 16, 0] := by decide +kernel
/-- The forward log decays' block is the array. -/
theorem rd3_0 (c : Dev nD) (t : Fin cfg3.N) (l : Fin 2) (h : Fin 4) : iblk3 V c 0 t (ix2 l h) = V c main_arg3 (ix2 l h) := by
  blk_ext! [iblk3, (by decide +kernel : ∀ t : Fin grid3.N, win3_0.index t = ![0, 0]) t]
/-- The backward log decays' block is the array. -/
theorem rd3_1 (c : Dev nD) (t : Fin cfg3.N) (l : Fin 2) (h : Fin 4) : iblk3 V c 1 t (ix2 l h) = V c main_arg4 (ix2 l h) := by
  blk_ext! [iblk3, (by decide +kernel : ∀ t : Fin grid3.N, win3_1.index t = ![0, 0]) t]
/-- A tile's row is its token. -/
theorem rd3_2 (c : Dev nD) (t : Fin cfg3.N) (b : Fin 2) (hb : b.val = t.val / 16) (u : Fin 16) (hu : u.val = t.val % 16) (r : Fin 1024) (j : Fin 1024) : iblk3 V c 2 t (ix3 0 r j) = V c main_arg0 (ix3 b (tok u r) j) := by
  blk_ext! [iblk3, tok, (by decide +kernel : ∀ t : Fin grid3.N, win3_2.index t = ![t.val / 16, t.val % 16, 0]) t]
/-- A tile's query is its token's. -/
theorem rd3_4 (c : Dev nD) (t : Fin cfg3.N) (b : Fin 2) (hb : b.val = t.val / 16) (u : Fin 16) (hu : u.val = t.val % 16) (r : Fin 1024) (j : Fin 512) : iblk3 V c 4 t (ix3 0 r j) = V c main_v54_0 (ix3 b (tok u r) j) := by
  blk_ext! [iblk3, tok, (by decide +kernel : ∀ t : Fin grid3.N, win3_4.index t = ![t.val / 16, t.val % 16, 0]) t]
/-- A tile's key is its token's. -/
theorem rd3_5 (c : Dev nD) (t : Fin cfg3.N) (b : Fin 2) (hb : b.val = t.val / 16) (u : Fin 16) (hu : u.val = t.val % 16) (r : Fin 1024) (j : Fin 512) : iblk3 V c 5 t (ix3 0 r j) = V c main_v54_1 (ix3 b (tok u r) j) := by
  blk_ext! [iblk3, tok, (by decide +kernel : ∀ t : Fin grid3.N, win3_5.index t = ![t.val / 16, t.val % 16, 0]) t]
/-- A tile's value is its token's. -/
theorem rd3_6 (c : Dev nD) (t : Fin cfg3.N) (b : Fin 2) (hb : b.val = t.val / 16) (u : Fin 16) (hu : u.val = t.val % 16) (r : Fin 1024) (j : Fin 512) : iblk3 V c 6 t (ix3 0 r j) = V c main_v54_2 (ix3 b (tok u r) j) := by
  blk_ext! [iblk3, tok, (by decide +kernel : ∀ t : Fin grid3.N, win3_6.index t = ![t.val / 16, t.val % 16, 0]) t]
/-- A tile's gate is its token's. -/
theorem rd3_7 (c : Dev nD) (t : Fin cfg3.N) (b : Fin 2) (hb : b.val = t.val / 16) (u : Fin 16) (hu : u.val = t.val % 16) (r : Fin 1024) (j : Fin 512) : iblk3 V c 7 t (ix3 0 r j) = V c main_v54_3 (ix3 b (tok u r) j) := by
  blk_ext! [iblk3, tok, (by decide +kernel : ∀ t : Fin grid3.N, win3_7.index t = ![t.val / 16, t.val % 16, 0]) t]
/-- A tile's Fourier row is its token's. -/
theorem rd3_11 (c : Dev nD) (t : Fin cfg3.N) (b : Fin 2) (hb : b.val = t.val / 16) (u : Fin 16) (hu : u.val = t.val % 16) (r : Fin 1024) (j : Fin 512) : iblk3 V c 11 t (ix3 0 r j) = V c main_arg5 (ix3 b (tok u r) j) := by
  blk_ext! [iblk3, tok, (by decide +kernel : ∀ t : Fin grid3.N, win3_11.index t = ![t.val / 16, t.val % 16, 0]) t]
/-- The gain's block is layer 0. -/
theorem rd3_3 (c : Dev nD) (t : Fin cfg3.N) (j : Fin 1024) : iblk3 V c 3 t (ix3 0 0 j) = V c main_v8 (ix3 0 0 j) := by
  blk_ext! [iblk3, (by decide +kernel : ∀ t : Fin grid3.N, win3_3.index t = ![0, 0, 0]) t]
/-- The states' block is a tile's. -/
theorem rd3_8 (c : Dev nD) (t : Fin cfg3.N) (b : Fin 2) (hb : b.val = t.val / 16) (u : Fin 16) (hu : u.val = t.val % 16) (p : Fin 8) (d e : Fin 128) : iblk3 V c 8 t (ix5 0 0 p d e) = V c main_v55 (ix5 b u p d e) := by
  blk_ext! [iblk3, (by decide +kernel : ∀ t : Fin grid3.N, win3_8.index t = ![t.val / 16, t.val % 16, 0, 0, 0]) t]
/-- The masks' block is layer 0. -/
theorem rd3_9 (c : Dev nD) (t : Fin cfg3.N) (h : Fin 4) (r j : Fin 256) : iblk3 V c 9 t (ix4 0 h r j) = V c main_v9_0 (ix4 0 h r j) := by
  blk_ext! [iblk3, (by decide +kernel : ∀ t : Fin grid3.N, win3_9.index t = ![0, 0, 0, 0]) t]
/-- The decays' block is layer 0. -/
theorem rd3_10 (c : Dev nD) (t : Fin cfg3.N) (h w : Fin 4) (r : Fin 256) (d : Fin 128) : iblk3 V c 10 t (ix5 0 h w r d) = V c main_v9_1 (ix5 0 h w r d) := by
  blk_ext! [iblk3, (by decide +kernel : ∀ t : Fin grid3.N, win3_10.index t = ![0, 0, 0, 0, 0]) t]
/-- The matrix's block is layer 0. -/
theorem rd3_12 (c : Dev nD) (t : Fin cfg3.N) (j : Fin 1024) (k : Fin 2048) : iblk3 V c 12 t (ix3 0 j k) = V c main_v57 (ix3 0 j k) := by
  blk_ext! [iblk3, (by decide +kernel : ∀ t : Fin grid3.N, win3_12.index t = ![0, 0, 0]) t]
/-- The matrix's block is layer 0. -/
theorem rd3_13 (c : Dev nD) (t : Fin cfg3.N) (j : Fin 512) (k : Fin 1024) : iblk3 V c 13 t (ix3 0 j k) = V c main_v58 (ix3 0 j k) := by
  blk_ext! [iblk3, (by decide +kernel : ∀ t : Fin grid3.N, win3_13.index t = ![0, 0, 0]) t]
/-- The matrix's block is layer 0. -/
theorem rd3_14 (c : Dev nD) (t : Fin cfg3.N) (j : Fin 512) (k : Fin 1024) : iblk3 V c 14 t (ix3 0 j k) = V c main_v59 (ix3 0 j k) := by
  blk_ext! [iblk3, (by decide +kernel : ∀ t : Fin grid3.N, win3_14.index t = ![0, 0, 0]) t]
/-- The matrix's block is layer 0. -/
theorem rd3_15 (c : Dev nD) (t : Fin cfg3.N) (j : Fin 1024) (k : Fin 1024) : iblk3 V c 15 t (ix3 0 j k) = V c main_v60 (ix3 0 j k) := by
  blk_ext! [iblk3, (by decide +kernel : ∀ t : Fin grid3.N, win3_15.index t = ![0, 0, 0]) t]

/-- The mixer's output array. -/
theorem out_final (c : Dev nD) : (dat3 V c).arrAt 16 cfg3.N =
    fun i => oF (V c main_arg3) (V c main_arg4) (V c main_arg0) (V c main_v8) (V c main_v54_0) (V c main_v54_1) (V c main_v54_2) (V c main_v54_3) (V c main_v55) (V c main_v9_0) (V c main_v9_1) (V c main_arg5) (V c main_v57) (V c main_v58) (V c main_v59) (V c main_v60) (i 0) (i 1) (i 2) := by
  refine (dat3 V c).arrAt_eq_of_covers 16 _ (by decide +kernel) fun t hf y => ?_
  show (dat3 V c).after _ t y = _
  rw [after3_16]
  unfold outsAt3
  idx_vars y
  have e0 : (((cfg3.win 16).blk t).view.emb (ix3 y0 y1 y2) 0 : ℕ) = t.val / 16 := by blk_simp [idx3_16 t]
  have e1 : (((cfg3.win 16).blk t).view.emb (ix3 y0 y1 y2) 1 : ℕ) = 1024 * (t.val % 16) + y1.val := by blk_simp [idx3_16 t]; omega
  have e2 : ((cfg3.win 16).blk t).view.emb (ix3 y0 y1 y2) 2 = y2 := by apply Fin.ext; blk_simp [idx3_16 t]
  rw [e2]
  generalize ((cfg3.win 16).blk t).view.emb (ix3 y0 y1 y2) 0 = b at e0 ⊢
  generalize ((cfg3.win 16).blk t).view.emb (ix3 y0 y1 y2) 1 = n at e1 ⊢
  obtain ⟨u, hu⟩ : ∃ u : Fin 16, u.val = t.val % 16 := ⟨⟨t.val % 16, Nat.mod_lt _ (by decide)⟩, rfl⟩
  have hn : n = tok u y1 := Fin.ext (by unfold tok; dsimp only; omega)
  have ht : tileOf (tok u y1) = u := Fin.ext (by unfold tileOf tok; dsimp only; omega)
  have hr : rowOf (tok u y1) = y1 := Fin.ext (by unfold rowOf tok; dsimp only; omega)
  subst hn
  unfold oF
  rw [ht, hr]
  refine (out3 c _ _ _ _ _ _ _ _ _ _ _ _ _ _ _ _ _ _ _ _ _ _ _ _ _ _ _ _ _ _ _ _ _ _ _ _ _ _ _ _ _ _ _ _ _ _ _ _ _ _ _ _ _ _ _ y0 y1 y2).trans ?_
  refine congrArg₂ (· + ·) (rd3_2 V c t b e0 u hu y1 y2) (Finset.sum_congr rfl fun j _ => congrArg₂ (· * ·) ?_ (rd3_15 V c t j y2))
  refine (mrgC_of (rd3_2 V c t b e0 u hu y1) (rd3_3 V c t) (rd3_11 V c t b e0 u hu y1) (rd3_12 V c t) (rd3_13 V c t) (rd3_14 V c t) _ j).trans ?_
  exact congrArg (fun z => mrgA _ _ _ _ _ _ z _ _ j) (retC_of (rd3_0 V c t) (rd3_1 V c t) (rd3_4 V c t b e0 u hu) (rd3_5 V c t b e0 u hu) (rd3_6 V c t b e0 u hu) (rd3_7 V c t b e0 u hu) (rd3_8 V c t b e0 u hu) (rd3_9 V c t) (rd3_10 V c t) y1)

end Cert.KernelIdeal.Mix
end
-- ==== Proof.MixCore.lean ====
module

public import proofs.«01_k».proof.Proof.MixNum
public import proofs.«01_k».proof.Proof.MixFin2
public import proofs.«01_k».proof.Proof.MixFin3

@[expose] public section
set_option maxRecDepth 16384
noncomputable section

/-!
# The retention of a tile is the retention over all positions

With real queries, keys, values and decays, the tiles' summaries, states and chunks add up to the decayed sum over all
positions.
-/

namespace Cert.MixCore

open Idealize.ShloMosaic Idealize.ShloMosaic.TcCoe
open Cert.KernelIdeal Cert.KernelIdeal.Mix Cert.MixReal Cert.MixSpec Cert.MixNum

/-- The exponential of a log decay over a stretch. -/
theorem exp_len {x : EReal} {l : ℝ} (hx : x = l) (L : ℕ) {lit : EReal} (hl : lit = ((L : ℝ) : EReal)) :
    Ideal.exp (x * lit) = (Real.exp (l * (L : ℝ)) : EReal) := by
  rw [hx, hl, ← EReal.coe_mul, Ideal.exp_coe]

section states

variable {LF LB : Vec Ideal S2x4 .f32} {KV : Vec Ideal S2x16x8x128x128 .bf16} {b : Fin 2} {h : Fin 4} {d e : Fin 128}
  {l : ℝ} {a : ℕ → ℝ}

/-- A forward state is the decayed sum of everything in front of its tile. -/
theorem st_fw (hl : LF (ix2 0 h) = (l : EReal))
    (hkv : ∀ t : Fin 16, KV (ix5 b t ⟨2 * h.val, by omega⟩ d e) = (kf l a 1024 (1024 * t.val) : EReal)) (t : Fin 16) :
    stA LF LB KV b t ⟨2 * h.val, by omega⟩ d e = (fw l a (1024 * t.val) : EReal) := by
  unfold stA
  rw [if_pos (by dsimp only; omega), stF_eq]
  have hh : (⟨2 * h.val / 2, by omega⟩ : Fin 4) = h := Fin.ext (by dsimp only; omega)
  rw [hh, exp_len hl 1024 (by rw [lit_1024]; norm_num)]
  refine (stG_fw l a 1024 0 16 0 _ (by rw [fw_zero]; rfl) (fun n hn => ?_) t.val (by omega)).trans (by rw [Nat.zero_add])
  rw [hkv]
  dsimp only
  rw [Nat.mod_eq_of_lt hn, Nat.zero_add]

/-- A backward state is the decayed sum of everything behind its tile. -/
theorem st_bw (hl : LB (ix2 0 h) = (l : EReal))
    (hkv : ∀ t : Fin 16, KV (ix5 b t ⟨2 * h.val + 1, by omega⟩ d e) = (kb l a 1024 (1024 * t.val) : EReal)) (t : Fin 16) :
    stA LF LB KV b t ⟨2 * h.val + 1, by omega⟩ d e = (bw l a 16384 (1024 * t.val + 1024) : EReal) := by
  unfold stA
  rw [if_neg (by dsimp only; omega), stF_eq]
  have hh : (⟨(2 * h.val + 1) / 2, by omega⟩ : Fin 4) = h := Fin.ext (by dsimp only; omega)
  rw [hh, exp_len hl 1024 (by rw [lit_1024]; norm_num)]
  refine (stG_bw l a 16384 1024 16384 16 0 _ (by rw [bw_end]; rfl) le_rfl (by decide) (fun n hn => ?_) (15 - t.val) (by omega)).trans ?_
  · rw [hkv]
    dsimp only
    rw [show 1024 * ((15 - n) % 16) = 16384 - 1024 * (n + 1) by omega]
  · rw [show 16384 - 1024 * (15 - t.val) = 1024 * t.val + 1024 by omega]

end states

section tile

variable {LF LB : Vec Ideal S2x4 .f32} {Q K VV : Vec Ideal S2x16384x512 .bf16} {ST : Vec Ideal S2x16x8x128x128 .f32}
  {MA : Vec Ideal S2x4x256x256 .f32} {DE : Vec Ideal S2x4x4x256x128 .bf16} {b : Fin 2} {t : Fin 16} {h : Fin 4} {e : Fin 128}
  {lf lb : ℝ} {q k : ℕ → Fin 128 → ℝ} {v : ℕ → ℝ}

/-- A row of a tile's chunk, as a token. -/
theorem tok_val (n : ℕ) (hn : n < 4) (r : Fin 256) : (tok t (crow n r)).val = 1024 * t.val + 256 * n + r.val := by
  unfold tok crow; dsimp only; omega

/-- A chunk's forward summary. -/
theorem ckv_fw (hK : ∀ (n : Fin 16384) d, K (ix3 b n (hcol h d)) = (k n.val d : EReal))
    (hV : ∀ n : Fin 16384, VV (ix3 b n (hcol h e)) = (v n.val : EReal))
    (hD : ∀ (r : Fin 256) d, DE (ix5 0 h 2 r d) = (Real.exp (lf * (255 - (r.val : ℝ))) : EReal)) (d : Fin 128) (n : ℕ) (hn : n < 4) :
    ckvA K VV DE b t 2 h d e n = (kf lf (fun m => k m d * v m) 256 (1024 * t.val + 256 * n) : EReal) := by
  unfold ckvA
  refine kf_of lf _ 256 _ _ fun r => ?_
  rw [hK, hV, hD, tok_val n hn r, ← EReal.coe_mul, ← EReal.coe_mul]
  congr 1
  rw [show ((256 : ℕ) : ℝ) - 1 - (r.val : ℝ) = 255 - (r.val : ℝ) by push_cast; ring]
  ring

/-- A chunk's backward summary. -/
theorem ckv_bw (hK : ∀ (n : Fin 16384) d, K (ix3 b n (hcol h d)) = (k n.val d : EReal))
    (hV : ∀ n : Fin 16384, VV (ix3 b n (hcol h e)) = (v n.val : EReal))
    (hD : ∀ (r : Fin 256) d, DE (ix5 0 h 3 r d) = (Real.exp (lb * (r.val : ℝ)) : EReal)) (d : Fin 128) (n : ℕ) (hn : n < 4) :
    ckvA K VV DE b t 3 h d e n = (kb lb (fun m => k m d * v m) 256 (1024 * t.val + 256 * n) : EReal) := by
  unfold ckvA
  refine kb_of lb _ 256 _ _ fun r => ?_
  rw [hK, hV, hD, tok_val n hn r, ← EReal.coe_mul, ← EReal.coe_mul]
  congr 1
  ring

/-- The retention of a tile's chunk is the retention over all positions. -/
theorem y_ret (hlf : LF (ix2 0 h) = (lf : EReal)) (hlb : LB (ix2 0 h) = (lb : EReal))
    (hQ : ∀ (n : Fin 16384) d, Q (ix3 b n (hcol h d)) = (q n.val d : EReal))
    (hK : ∀ (n : Fin 16384) d, K (ix3 b n (hcol h d)) = (k n.val d : EReal))
    (hV : ∀ n : Fin 16384, VV (ix3 b n (hcol h e)) = (v n.val : EReal))
    (hM : ∀ r j : Fin 256, MA (ix4 0 h r j) = (dec lf lb r.val j.val : EReal))
    (hD0 : ∀ (r : Fin 256) d, DE (ix5 0 h 0 r d) = (Real.exp (lf * ((r.val : ℝ) + 1)) : EReal))
    (hD1 : ∀ (r : Fin 256) d, DE (ix5 0 h 1 r d) = (Real.exp (lb * (256 - (r.val : ℝ))) : EReal))
    (hD2 : ∀ (r : Fin 256) d, DE (ix5 0 h 2 r d) = (Real.exp (lf * (255 - (r.val : ℝ))) : EReal))
    (hD3 : ∀ (r : Fin 256) d, DE (ix5 0 h 3 r d) = (Real.exp (lb * (r.val : ℝ)) : EReal))
    (hSf : ∀ d, ST (ix5 b t ⟨2 * h.val, by omega⟩ d e) = (fw lf (fun m => k m d * v m) (1024 * t.val) : EReal))
    (hSb : ∀ d, ST (ix5 b t ⟨2 * h.val + 1, by omega⟩ d e) = (bw lb (fun m => k m d * v m) 16384 (1024 * t.val + 1024) : EReal))
    (n : ℕ) (hn : n < 4) (r : Fin 256) :
    yA LF LB Q K VV ST MA DE b t h n r e = (ret lf lb 16384 (q (1024 * t.val + 256 * n + r.val)) k v (1024 * t.val + 256 * n + r.val) : EReal) := by
  have hf : ∀ d, fwA LF K VV ST DE b t h d e n = (fw lf (fun m => k m d * v m) (1024 * t.val + 256 * n) : EReal) := fun d => by
    unfold fwA
    rw [exp_len hlf 256 (by rw [lit_256]; norm_num)]
    exact stG_fw lf _ 256 (1024 * t.val) 4 _ _ (hSf d) (fun m hm => ckv_fw hK hV hD2 d m hm) n (by omega)
  have hb : ∀ d, bwA LB K VV ST DE b t h d e n = (bw lb (fun m => k m d * v m) 16384 (1024 * t.val + 256 * n + 256) : EReal) := fun d => by
    unfold bwA
    rw [exp_len hlb 256 (by rw [lit_256]; norm_num)]
    refine (stG_bw lb _ 16384 256 (1024 * t.val + 1024) 3 _ _ (hSb d) (by omega) (by omega) (fun m hm => ?_) (3 - n) (by omega)).trans ?_
    · rw [ckv_bw hK hV hD3 d (3 - m) (by omega), show 1024 * t.val + 256 * (3 - m) = 1024 * t.val + 1024 - 256 * (m + 1) by omega]
    · rw [show 1024 * t.val + 1024 - 256 * (3 - n) = 1024 * t.val + 256 * n + 256 by omega]
  unfold yA
  simp only [hQ, hK, hV, hM, hD0, hD1, hf, hb, tok_val n hn, ← EReal.coe_mul, coe_sum, ← EReal.coe_add]
  refine congrArg Real.toEReal ?_
  have hS : 1024 * t.val + 256 * n + 256 ≤ 16384 := by omega
  rw [← ret_chunk lf lb 16384 (1024 * t.val + 256 * n) 256 r.val r.isLt hS, Finset.sum_range]
  rw [show ((256 : ℕ) : ℝ) = 256 from Nat.cast_ofNat]

end tile

end Cert.MixCore
end
-- ==== Proof.MixRefA.lean ====
module

public import proofs.«01_k».proof.Proof.Gen.ReferenceIdeal.Run
public import proofs.«01_k».proof.Proof.MixSpec
public import Idealize.ShloMosaic.Lib.Pointwise
public import Idealize.ShloMosaic.Lib.Tactic
public import Idealize.ShloMosaic.Lib.Pipeline.ValueKit

@[expose] public section
set_option maxRecDepth 16384
set_option maxHeartbeats 4000000
noncomputable section

/-!
# The mixer's reference, entry by entry

What the intermediate arrays of the plain mathematics hold.
-/

namespace Cert.ReferenceIdeal.Value

open Idealize.ShloMosaic Idealize.ShloMosaic.TcCoe Idealize.SL.Sem
open Cert.ReferenceIdeal

variable (U : Valuation τ sig (Elt Ideal))

/-- A projection of a token with the first layer's columns. -/
def pR (b : Fin 2) (n : Fin 16384) (col : Fin 4608) : EReal :=
  Rows.proj (fun j => U (Proc.devRef .tc main_arg0) (ix3 b n j)) (fun j => U (Proc.devRef .tc main_arg1) (ix2 0 j))
    (fun j => U (Proc.devRef .tc main_arg2) (ix3 0 j col))

/-- The projected rows. -/
theorem v17_eq (b : Fin 2) (n : Fin 16384) (col : Fin 4608) : res_main_v17 U (ix3 b n col) = pR U b n col := by
  unfold res_main_v17
  pointwise
  exact Rows.proj_eq _ _ _

/-- The gates. -/
theorem v21_eq (b : Fin 2) (n : Fin 16384) (col : Fin 512) :
    res_main_v21 U (ix3 b n col) = pR U b n ⟨1536 + col.val, by omega⟩ := by
  unfold res_main_v21
  pointwise
  exact v17_eq U b n _

/-- The angles of the queries. -/
theorem v36_eq (n : Fin 16384) (i : Fin 64) :
    res_main_v36 U (ix2 n i) = FloatOps.sitofp (F := Ideal) .f32 (BitVec.ofNat 32 n.val) * MixSpec.frq i.val := by
  unfold res_main_v36 res_main_v25 res_main_call0_v0 res_main_call0_v1 res_main_call0_v6 MixSpec.frq MixSpec.lin
  pointwise [id]
  by_cases hd : i.val < 63 <;> simp only [hd, dite_true, dite_false, if_true, if_false, not_false_eq_true]

/-- The angles of the keys. -/
theorem v67_eq (n : Fin 16384) (i : Fin 64) :
    res_main_v67 U (ix2 n i) = FloatOps.sitofp (F := Ideal) .f32 (BitVec.ofNat 32 n.val) * MixSpec.frq i.val := by
  unfold res_main_v67 res_main_v25 res_main_call1_v0 res_main_call1_v1 res_main_call1_v6 MixSpec.frq MixSpec.lin
  pointwise [id]
  by_cases hd : i.val < 63 <;> simp only [hd, dite_true, dite_false, if_true, if_false, not_false_eq_true]

/-- A head's entry after the rotation: the rotation of the projections from column `off` on. -/
def rotR (off : ℕ) (ho : off ≤ 512) (b : Fin 2) (n : Fin 16384) (h : Fin 4) (d : Fin 128) : EReal :=
  if d.val % 2 = 0 then
    pR U b n ⟨off + (128 * h.val + 2 * (d.val / 2)), by omega⟩ * Ideal.cos (FloatOps.sitofp (F := Ideal) .f32 (BitVec.ofNat 32 n.val) * MixSpec.frq (d.val / 2)) -
      pR U b n ⟨off + (128 * h.val + (2 * (d.val / 2) + 1)), by omega⟩ * Ideal.sin (FloatOps.sitofp (F := Ideal) .f32 (BitVec.ofNat 32 n.val) * MixSpec.frq (d.val / 2))
  else
    pR U b n ⟨off + (128 * h.val + 2 * (d.val / 2)), by omega⟩ * Ideal.sin (FloatOps.sitofp (F := Ideal) .f32 (BitVec.ofNat 32 n.val) * MixSpec.frq (d.val / 2)) +
      pR U b n ⟨off + (128 * h.val + (2 * (d.val / 2) + 1)), by omega⟩ * Ideal.cos (FloatOps.sitofp (F := Ideal) .f32 (BitVec.ofNat 32 n.val) * MixSpec.frq (d.val / 2))

/-- The queries' projections by head. -/
theorem v26_eq (b : Fin 2) (n : Fin 16384) (h : Fin 4) (d : Fin 128) :
    res_main_v26 U (ix4 b n h d) = pR U b n ⟨0 + (128 * h.val + d.val), by omega⟩ := by
  unfold res_main_v26
  pointwise
  refine Eq.trans ?_ (v17_eq U b n _)
  blk_point []

/-- The keys' projections by head. -/
theorem v57_eq (b : Fin 2) (n : Fin 16384) (h : Fin 4) (d : Fin 128) :
    res_main_v57 U (ix4 b n h d) = pR U b n ⟨512 + (128 * h.val + d.val), by omega⟩ := by
  unfold res_main_v57
  pointwise
  refine Eq.trans ?_ (v17_eq U b n _)
  blk_point []

/-- The values by head. -/
theorem v90_eq (b : Fin 2) (n : Fin 16384) (h : Fin 4) (d : Fin 128) :
    res_main_v90 U (ix4 b n h d) = pR U b n ⟨1024 + (128 * h.val + d.val), by omega⟩ := by
  unfold res_main_v90
  pointwise
  refine Eq.trans ?_ (v17_eq U b n _)
  blk_point []

/-- The queries' cosines. -/
theorem v38_eq (n : Fin 16384) (i : Fin 64) : res_main_v38 U (ix4 0 n 0 i) = Ideal.cos (res_main_v36 U (ix2 n i)) := by
  unfold res_main_v38; pointwise
/-- The queries' sines. -/
theorem v40_eq (n : Fin 16384) (i : Fin 64) : res_main_v40 U (ix4 0 n 0 i) = Ideal.sin (res_main_v36 U (ix2 n i)) := by
  unfold res_main_v40; pointwise
/-- The keys' cosines. -/
theorem v69_eq (n : Fin 16384) (i : Fin 64) : res_main_v69 U (ix4 0 n 0 i) = Ideal.cos (res_main_v67 U (ix2 n i)) := by
  unfold res_main_v69; pointwise
/-- The keys' sines. -/
theorem v71_eq (n : Fin 16384) (i : Fin 64) : res_main_v71 U (ix4 0 n 0 i) = Ideal.sin (res_main_v67 U (ix2 n i)) := by
  unfold res_main_v71; pointwise

/-- The even dimensions of the queries. -/
theorem v41_eq (b : Fin 2) (n : Fin 16384) (h : Fin 4) (i : Fin 64) :
    res_main_v41 U (ix4 b n h i) = res_main_v26 U (ix4 b n h ⟨2 * i.val, by omega⟩) := by
  unfold res_main_v41; pointwise
/-- The odd dimensions of the queries. -/
theorem v42_eq (b : Fin 2) (n : Fin 16384) (h : Fin 4) (i : Fin 64) :
    res_main_v42 U (ix4 b n h i) = res_main_v26 U (ix4 b n h ⟨1 + 2 * i.val, by omega⟩) := by
  unfold res_main_v42; pointwise
/-- The even dimensions of the keys. -/
theorem v72_eq (b : Fin 2) (n : Fin 16384) (h : Fin 4) (i : Fin 64) :
    res_main_v72 U (ix4 b n h i) = res_main_v57 U (ix4 b n h ⟨2 * i.val, by omega⟩) := by
  unfold res_main_v72; pointwise
/-- The odd dimensions of the keys. -/
theorem v73_eq (b : Fin 2) (n : Fin 16384) (h : Fin 4) (i : Fin 64) :
    res_main_v73 U (ix4 b n h i) = res_main_v57 U (ix4 b n h ⟨1 + 2 * i.val, by omega⟩) := by
  unfold res_main_v73; pointwise

end Cert.ReferenceIdeal.Value
end
-- ==== Proof.MixRot.lean ====
module

public import proofs.«01_k».proof.Proof.MixArr1
public import proofs.«01_k».proof.Proof.MixNum
public import proofs.«01_k».proof.Proof.MixRefA

@[expose] public section
set_option maxRecDepth 16384
noncomputable section

/-!
# The two rotations agree

The kernel splits an angle into the tile's and the row's, and keeps the even dimensions of a head in front of the odd
ones; the reference rotates neighbouring dimensions by the whole angle.
-/

namespace Cert.MixRot

open Idealize.ShloMosaic Idealize.ShloMosaic.TcCoe
open Cert.KernelIdeal Cert.KernelIdeal.Mix Cert.MixReal Cert.MixSpec Cert.MixNum
open Cert.ReferenceIdeal.Value (pR rotR)

variable {U : Valuation ReferenceIdeal.τ ReferenceIdeal.sig (Elt Ideal)}
  {X : Vec Ideal S2x16384x1024 .f32} {G : Vec Ideal S2x1x1024 .f32} {W : Vec Ideal S2x1024x2560 .bf16}
  {B : Vec Ideal S16x2x8x128 .f32} {T : Vec Ideal S4x1024x128 .f32}

/-- The tile's tables hold the cosines and sines of the tiles' first positions. -/
def BaseOk (B : Vec Ideal S16x2x8x128 .f32) : Prop := ∀ (t : Fin 16) (d : Fin 128),
  B (ix4 t 0 0 d) = Ideal.cos ((Ideal.ofBits .f32 1149239296#32 * FloatOps.sitofp (F := Ideal) .f32 (BitVec.ofNat 32 t.val)) * MixSpec.frq (d.val % 64)) ∧
  B (ix4 t 1 0 d) = Ideal.sin ((Ideal.ofBits .f32 1149239296#32 * FloatOps.sitofp (F := Ideal) .f32 (BitVec.ofNat 32 t.val)) * MixSpec.frq (d.val % 64))

/-- The rows' tables hold the cosines and sines of the rows, plain and signed. -/
def RowsOk (T : Vec Ideal S4x1024x128 .f32) : Prop := ∀ (r : Fin 1024) (d : Fin 128),
  T (ix3 0 r d) = Ideal.cos (FloatOps.sitofp (F := Ideal) .f32 (BitVec.ofNat 32 r.val) * MixSpec.frq (d.val % 64)) ∧
  T (ix3 1 r d) = Ideal.sin (FloatOps.sitofp (F := Ideal) .f32 (BitVec.ofNat 32 r.val) * MixSpec.frq (d.val % 64)) ∧
  T (ix3 2 r d) = Ideal.cos (FloatOps.sitofp (F := Ideal) .f32 (BitVec.ofNat 32 r.val) * MixSpec.frq (d.val % 64)) * (if d.val < 64 then -1 else 1) ∧
  T (ix3 3 r d) = Ideal.sin (FloatOps.sitofp (F := Ideal) .f32 (BitVec.ofNat 32 r.val) * MixSpec.frq (d.val % 64)) * (if d.val < 64 then -1 else 1)

/-- The projection's columns: a head's even dimensions in front of its odd ones for the queries and keys. -/
def ColsOk (U : Valuation ReferenceIdeal.τ ReferenceIdeal.sig (Elt Ideal)) (X : Vec Ideal S2x16384x1024 .f32) (G : Vec Ideal S2x1x1024 .f32)
    (W : Vec Ideal S2x1024x2560 .bf16) : Prop :=
  (∀ b n (col : Fin 2560) (c' : Fin 4608), col.val < 1024 → c'.val = 128 * (col.val / 128) + (2 * (col.val % 64) + col.val / 64 % 2) → pA X G W b n col = pR U b n c') ∧
  (∀ b n (col : Fin 2560) (c' : Fin 4608), ¬ col.val < 1024 → c'.val = col.val → pA X G W b n col = pR U b n c')

/-- The cosine of a token's angle. -/
theorem cA_eq (hB : BaseOk B) (hT : RowsOk T) (n : Fin 16384) (d : Fin 128) :
    cA B T n d = Ideal.cos (FloatOps.sitofp (F := Ideal) .f32 (BitVec.ofNat 32 n.val) * MixSpec.frq (d.val % 64)) := by
  obtain ⟨f, hf⟩ := frq_real
  unfold cA
  rw [(hB _ d).1, (hB _ d).2, (hT _ d).1, (hT _ d).2.1, hf, pos_real _ (by omega), pos_real _ (by omega), pos_real _ (by omega), Rows.lit_1024]
  simp only [← EReal.coe_mul, Ideal.cos_coe, Ideal.sin_coe, ← EReal.coe_sub]
  refine congrArg Real.toEReal ?_
  rw [← Real.cos_add, ← add_mul]
  congr 2
  have : n.val = 1024 * (n.val / 1024) + n.val % 1024 := by omega
  unfold tileOf rowOf
  dsimp only
  exact_mod_cast this.symm

/-- The signed sine of a token's angle. -/
theorem sA_eq (hB : BaseOk B) (hT : RowsOk T) (n : Fin 16384) (d : Fin 128) :
    sA B T n d = Ideal.sin (FloatOps.sitofp (F := Ideal) .f32 (BitVec.ofNat 32 n.val) * MixSpec.frq (d.val % 64)) * (if d.val < 64 then -1 else 1) := by
  obtain ⟨f, hf⟩ := frq_real
  obtain ⟨s, hs⟩ : ∃ s : ℝ, (if d.val < 64 then (-1 : EReal) else 1) = (s : EReal) := by
    by_cases h : d.val < 64
    · exact ⟨-1, by rw [if_pos h]; rfl⟩
    · exact ⟨1, by rw [if_neg h]; rfl⟩
  unfold sA
  rw [(hB _ d).1, (hB _ d).2, (hT _ d).2.2.1, (hT _ d).2.2.2, hs, hf, pos_real _ (by omega), pos_real _ (by omega), pos_real _ (by omega), Rows.lit_1024]
  simp only [← EReal.coe_mul, Ideal.cos_coe, Ideal.sin_coe, ← EReal.coe_add]
  refine congrArg Real.toEReal ?_
  rw [← mul_assoc, ← mul_assoc, ← add_mul, ← Real.sin_add, ← add_mul]
  congr 3
  have : n.val = 1024 * (n.val / 1024) + n.val % 1024 := by omega
  unfold tileOf rowOf
  dsimp only
  exact_mod_cast this.symm

/-- A column's place from its head and its dimension. -/
theorem col_place (a d c : ℕ) (hd : d < 128) (hc : c = 128 * a + d) :
    128 * (c / 128) + (2 * (c % 64) + c / 64 % 2) = 128 * a + (2 * (d % 64) + d / 64) := by
  have h1 : c / 128 = a := by omega
  have h2 : c % 64 = d % 64 := by omega
  have h3 : c / 64 = 2 * a + d / 64 := by omega
  have h4 : (2 * a + d / 64) % 2 = d / 64 := by omega
  rw [h1, h2, h3, h4]

set_option maxHeartbeats 2000000 in
/-- The kernel's rotation is the reference's, with the dimensions in the kernel's order. -/
theorem rot_eq (hB : BaseOk B) (hT : RowsOk T) (hC : ColsOk U X G W) (off : ℕ) (ho : off ≤ 512) (hm : off % 128 = 0)
    (b : Fin 2) (n : Fin 16384) (h : Fin 4) (d : Fin 128) (c1 c2 : Fin 2560)
    (h1 : c1.val = off + 128 * h.val + d.val) (h2 : c2.val = off + 128 * h.val + (d.val + 64) % 128) :
    pA X G W b n c1 * cA B T n d + pA X G W b n c2 * sA B T n d = rotR U off ho b n h (perm d) := by
  rw [cA_eq hB hT, sA_eq hB hT]
  unfold rotR
  have hp : (perm d).val = 2 * (d.val % 64) + d.val / 64 := rfl
  have hp2 : (perm d).val / 2 = d.val % 64 := by omega
  simp only [hp2]
  by_cases hd : d.val < 64
  · rw [if_pos hd, if_pos (show (perm d).val % 2 = 0 by omega)]
    rw [hC.1 b n c1 ⟨off + (128 * h.val + 2 * (d.val % 64)), by omega⟩ (by omega) (by dsimp only; rw [col_place (off / 128 + h.val) d.val c1.val (by omega) (by omega)]; omega),
      hC.1 b n c2 ⟨off + (128 * h.val + (2 * (d.val % 64) + 1)), by omega⟩ (by omega) (by dsimp only; rw [col_place (off / 128 + h.val) (d.val + 64) c2.val (by omega) (by omega), show (d.val + 64) % 64 = d.val % 64 by omega, show (d.val + 64) / 64 = 1 by omega]; omega)]
    rw [mul_neg, mul_one, mul_neg, sub_eq_add_neg]
  · rw [if_neg hd, if_neg (show ¬ (perm d).val % 2 = 0 by omega)]
    rw [hC.1 b n c1 ⟨off + (128 * h.val + (2 * (d.val % 64) + 1)), by omega⟩ (by omega) (by dsimp only; rw [col_place (off / 128 + h.val) d.val c1.val (by omega) (by omega)]; omega),
      hC.1 b n c2 ⟨off + (128 * h.val + 2 * (d.val % 64)), by omega⟩ (by omega) (by dsimp only; rw [col_place (off / 128 + h.val) (d.val - 64) c2.val (by omega) (by omega), show (d.val - 64) % 64 = d.val % 64 by omega, show (d.val - 64) / 64 = 0 by omega]; omega)]
    rw [mul_one, add_comm]

/-- The kernel's queries are the reference's. -/
theorem qF_eq (hB : BaseOk B) (hT : RowsOk T) (hC : ColsOk U X G W) (b : Fin 2) (n : Fin 16384) (h : Fin 4) (d : Fin 128) :
    qF X G W B T b n (hcol h d) = rotR U 0 (by decide) b n h (perm d) := by
  unfold qF qA
  have e1 : (⟨(hcol h d).val / 128, by omega⟩ : Fin 4) = h := Fin.ext (by unfold hcol; dsimp only; omega)
  have e2 : (⟨(hcol h d).val % 128, by omega⟩ : Fin 128) = d := Fin.ext (by unfold hcol; dsimp only; omega)
  rw [e1, e2]
  exact rot_eq hB hT hC 0 (by decide) (by decide) b n h d _ _ (by dsimp only; omega) (by dsimp only; omega)

/-- The kernel's keys by head are the reference's. -/
theorem kA_eq (hB : BaseOk B) (hT : RowsOk T) (hC : ColsOk U X G W) (b : Fin 2) (n : Fin 16384) (h : Fin 4) (d : Fin 128) :
    kA X G W B T b n h d = rotR U 512 (by decide) b n h (perm d) * Ideal.ofBits .f32 0x3DB504F3#32 := by
  unfold kA
  rw [rot_eq hB hT hC 512 (by decide) (by decide) b n h d _ _ (by dsimp only) (by dsimp only)]

/-- The kernel's keys are the reference's. -/
theorem kF_eq (hB : BaseOk B) (hT : RowsOk T) (hC : ColsOk U X G W) (b : Fin 2) (n : Fin 16384) (h : Fin 4) (d : Fin 128) :
    kF X G W B T b n (hcol h d) = rotR U 512 (by decide) b n h (perm d) * Ideal.ofBits .f32 0x3DB504F3#32 := by
  unfold kF
  have e1 : (⟨(hcol h d).val / 128, by omega⟩ : Fin 4) = h := Fin.ext (by unfold hcol; dsimp only; omega)
  have e2 : (⟨(hcol h d).val % 128, by omega⟩ : Fin 128) = d := Fin.ext (by unfold hcol; dsimp only; omega)
  rw [e1, e2]
  exact kA_eq hB hT hC b n h d

/-- The kernel's values are the reference's. -/
theorem vF_eq (hC : ColsOk U X G W) (b : Fin 2) (n : Fin 16384) (h : Fin 4) (d : Fin 128) :
    vF X G W b n (hcol h d) = pR U b n ⟨1024 + (128 * h.val + d.val), by omega⟩ := by
  unfold vF
  exact hC.2 b n _ _ (by dsimp only; omega) (by unfold hcol; dsimp only)

/-- The kernel's gates are the reference's. -/
theorem gF_eq (hC : ColsOk U X G W) (b : Fin 2) (n : Fin 16384) (col : Fin 512) :
    gF X G W b n col = pR U b n ⟨1536 + col.val, by omega⟩ := by
  unfold gF
  exact hC.2 b n _ _ (by dsimp only; omega) (by dsimp only)

section summaries

variable {LF LB : Vec Ideal S2x4 .f32} {b : Fin 2} {h : Fin 4} {d e : Fin 128} {l : ℝ} {k v : ℕ → ℝ}

/-- A tile's forward summary as a real number. -/
theorem kvF_fw (hB : BaseOk B) (hT : RowsOk T) (hC : ColsOk U X G W) (hl : LF (ix2 0 h) = (l : EReal))
    (hk : ∀ n : Fin 16384, rotR U 512 (by decide) b n h (perm d) * Ideal.ofBits .f32 0x3DB504F3#32 = (k n.val : EReal))
    (hv : ∀ n : Fin 16384, pR U b n ⟨1024 + (128 * h.val + e.val), by omega⟩ = (v n.val : EReal)) (t : Fin 16) :
    kvF X G W B T LF LB b t ⟨2 * h.val, by omega⟩ d e = (kf l (fun m => k m * v m) 1024 (1024 * t.val) : EReal) := by
  unfold kvF
  rw [if_pos (by dsimp only; omega)]
  have hh : (⟨2 * h.val / 2, by omega⟩ : Fin 4) = h := Fin.ext (by dsimp only; omega)
  rw [hh]
  unfold kvfA
  refine kf_of l _ 1024 _ _ fun r => ?_
  rw [kA_eq hB hT hC, hk, hl, lit_1023, pos_real _ (by omega),
    hC.2 b (tok t r) ⟨1024 + 128 * h.val + e.val, by omega⟩ ⟨1024 + (128 * h.val + e.val), by omega⟩ (by dsimp only; omega) (by dsimp only; omega), hv,
    ← EReal.coe_sub, ← EReal.coe_mul, Ideal.exp_coe, ← EReal.coe_mul, ← EReal.coe_mul]
  refine congrArg Real.toEReal ?_
  rw [show ((1024 : ℕ) : ℝ) - 1 - (r.val : ℝ) = 1023 - (r.val : ℝ) by push_cast; ring]
  unfold tok
  dsimp only
  ring

/-- A tile's backward summary as a real number. -/
theorem kvF_bw (hB : BaseOk B) (hT : RowsOk T) (hC : ColsOk U X G W) (hl : LB (ix2 0 h) = (l : EReal))
    (hk : ∀ n : Fin 16384, rotR U 512 (by decide) b n h (perm d) * Ideal.ofBits .f32 0x3DB504F3#32 = (k n.val : EReal))
    (hv : ∀ n : Fin 16384, pR U b n ⟨1024 + (128 * h.val + e.val), by omega⟩ = (v n.val : EReal)) (t : Fin 16) :
    kvF X G W B T LF LB b t ⟨2 * h.val + 1, by omega⟩ d e = (kb l (fun m => k m * v m) 1024 (1024 * t.val) : EReal) := by
  unfold kvF
  rw [if_neg (by dsimp only; omega)]
  have hh : (⟨(2 * h.val + 1) / 2, by omega⟩ : Fin 4) = h := Fin.ext (by dsimp only; omega)
  rw [hh]
  unfold kvbA
  refine kb_of l _ 1024 _ _ fun r => ?_
  rw [kA_eq hB hT hC, hk, hl, pos_real _ (by omega),
    hC.2 b (tok t r) ⟨1024 + 128 * h.val + e.val, by omega⟩ ⟨1024 + (128 * h.val + e.val), by omega⟩ (by dsimp only; omega) (by dsimp only; omega), hv,
    ← EReal.coe_mul, Ideal.exp_coe, ← EReal.coe_mul, ← EReal.coe_mul]
  refine congrArg Real.toEReal ?_
  unfold tok
  dsimp only
  ring

end summaries

end Cert.MixRot
end
-- ==== Proof.MixRefB.lean ====
module

public import proofs.«01_k».proof.Proof.MixRefA
public import Idealize.ShloMosaic.Lib.Pointwise
public import Idealize.ShloMosaic.Lib.Tactic
public import Idealize.ShloMosaic.Lib.Pipeline.ValueKit

@[expose] public section
set_option maxRecDepth 16384
set_option maxHeartbeats 4000000
noncomputable section

/-!
# The rotated queries of the reference
-/

namespace Cert.ReferenceIdeal.Value

open Idealize.ShloMosaic Idealize.ShloMosaic.TcCoe Idealize.SL.Sem
open Cert.ReferenceIdeal

variable (U : Valuation τ sig (Elt Ideal))

/-- The rotated queries. -/
theorem v56_eq (b : Fin 2) (n : Fin 16384) (h : Fin 4) (d : Fin 128) :
    res_main_v56 U (ix4 b n h d) = rotR U 0 (by decide) b n h d := by
  unfold res_main_v56
  pointwise
  simp only [v41_eq, v42_eq, v38_eq, v40_eq, v36_eq, v26_eq]
  unfold rotR
  by_cases hd : d.val % 2 = 0
  · rw [dif_pos (by omega), if_pos hd]
    blk_point [] <;> (apply Fin.ext; dsimp only; omega)
  · rw [dif_neg (by omega), if_neg hd]
    blk_point [] <;> (apply Fin.ext; dsimp only; omega)

end Cert.ReferenceIdeal.Value
end
-- ==== Proof.MixRefC.lean ====
module

public import proofs.«01_k».proof.Proof.MixRefA
public import Idealize.ShloMosaic.Lib.Pointwise
public import Idealize.ShloMosaic.Lib.Tactic
public import Idealize.ShloMosaic.Lib.Pipeline.ValueKit

@[expose] public section
set_option maxRecDepth 16384
set_option maxHeartbeats 4000000
noncomputable section

/-!
# The rotated keys of the reference
-/

namespace Cert.ReferenceIdeal.Value

open Idealize.ShloMosaic Idealize.ShloMosaic.TcCoe Idealize.SL.Sem
open Cert.ReferenceIdeal

variable (U : Valuation τ sig (Elt Ideal))

/-- A product's entry. -/
theorem mul_entry (A B : FVec Ideal S2x16384x4x128 .f32) (b : Fin 2) (n : Fin 16384) (h : Fin 4) (d : Fin 128) :
    (mulf A B : FVec Ideal S2x16384x4x128 .f32) (ix4 b n h d) = HMul.hMul (α := EReal) (A (ix4 b n h d)) (B (ix4 b n h d)) := rfl

/-- The rotated and scaled keys. -/
theorem v89_eq (b : Fin 2) (n : Fin 16384) (h : Fin 4) (d : Fin 128) :
    res_main_v89 U (ix4 b n h d) = rotR U 512 (by decide) b n h d * Ideal.ofBits .f32 0x3DB504F3#32 := by
  unfold res_main_v89
  refine (mul_entry _ _ _ _ _ _).trans ?_
  refine congrArg₂ (fun x y : EReal => x * y) ?_ ?_
  · pointwise
    simp only [v72_eq, v73_eq, v69_eq, v71_eq, v67_eq, v57_eq]
    have e : ∀ x : ℕ, 1 + 2 * x = 2 * x + 1 := fun x => Nat.add_comm _ _
    simp only [e]
    unfold rotR
    by_cases hd : d.val % 2 = 0
    · rw [dif_pos (by omega), if_pos hd]
    · rw [dif_neg (by omega), if_neg hd]
  · pointwise

end Cert.ReferenceIdeal.Value
end
-- ==== Proof.MixRefD.lean ====
module

public import proofs.«01_k».proof.Proof.MixRefA
public import Idealize.ShloMosaic.Lib.Pointwise
public import Idealize.ShloMosaic.Lib.Tactic
public import Idealize.ShloMosaic.Lib.Pipeline.ValueKit

@[expose] public section
set_option maxRecDepth 16384
set_option maxHeartbeats 4000000
noncomputable section

/-!
# The retention of the reference
-/

namespace Cert.ReferenceIdeal.Value

open Idealize.ShloMosaic Idealize.ShloMosaic.TcCoe Idealize.SL.Sem
open Cert.ReferenceIdeal Cert.ReferenceIdeal.Gen Idealize.ShloMosaic.StableHlo

variable (U : Valuation τ sig (Elt Ideal))

/-- The retention of a token, head and column: the sum of the two masked parts. -/
def yS (q k : Fin 16384 → Fin 4 → Fin 128 → EReal) (v : Fin 16384 → Fin 4 → Fin 128 → EReal) (lf lb : Fin 4 → EReal)
    (n : Fin 16384) (h : Fin 4) (e : Fin 128) : EReal :=
  (∑ x : Fin 16384, v x h e * ((∑ d : Fin 128, q n h d * k x h d) *
    Scalar.select (IntOp.cmpi .sge (BitVec.ofNat 32 n.val) (BitVec.ofNat 32 x.val))
      (Ideal.exp (lf h * Scalar.select (IntOp.cmpi .sge (BitVec.ofNat 32 n.val) (BitVec.ofNat 32 x.val))
        (FloatOps.sitofp (F := Ideal) .f32 (IntOp.subi (BitVec.ofNat 32 n.val) (BitVec.ofNat 32 x.val))) 0)) 0)) +
  ∑ x : Fin 16384, v x h e * ((∑ d : Fin 128, q n h d * k x h d) *
    Scalar.select (IntOp.cmpi .slt (BitVec.ofNat 32 n.val) (BitVec.ofNat 32 x.val))
      (Ideal.exp (lb h * Scalar.select (IntOp.cmpi .slt (BitVec.ofNat 32 n.val) (BitVec.ofNat 32 x.val))
        (-FloatOps.sitofp (F := Ideal) .f32 (IntOp.subi (BitVec.ofNat 32 n.val) (BitVec.ofNat 32 x.val))) 0)) 0)

/-- The forward decay of every head and pair of positions. -/
def fwM : FVec Ideal S4x16384x16384 .f32 :=
  select (broadcastInDim S4x16384x16384 ![1, 2] bcast_S16384x16384_S4x16384x16384_1_2 (res_main_v104 U)) (Host.exp (mulf (broadcastInDim S4x16384x16384 ![0, 1, 2] bcast_S4x1x1_S4x16384x16384_0_1_2 (broadcastInDim S4x1x1 ![0] bcast_S4_S4x1x1_0 (shapeCast _ (extractStridedSlice S1x4 ![0, 0] (U (Proc.devRef .tc main_arg3)) slices_S2x4_S1x4_0_0) shapeCasts_S1x4_S4))) (broadcastInDim S4x16384x16384 ![0, 1, 2] bcast_S1x16384x16384_S4x16384x16384_0_1_2 (broadcastInDim S1x16384x16384 ![1, 2] bcast_S16384x16384_S1x16384x16384_1_2 (select (res_main_v104 U) (res_main_v97 U) (broadcastInDim S16384x16384 ![] bcast_S_S16384x16384 (id (constant S_ .f32 0x00000000#32)))))))) (broadcastInDim S4x16384x16384 ![] bcast_S_S4x16384x16384 (id (constant S_ .f32 0x00000000#32)))

/-- The backward decay of every head and pair of positions. -/
def bwM : FVec Ideal S4x16384x16384 .f32 :=
  select (broadcastInDim S4x16384x16384 ![1, 2] bcast_S16384x16384_S4x16384x16384_1_2 (res_main_v126 U)) (Host.exp (mulf (broadcastInDim S4x16384x16384 ![0, 1, 2] bcast_S4x1x1_S4x16384x16384_0_1_2 (broadcastInDim S4x1x1 ![0] bcast_S4_S4x1x1_0 (shapeCast _ (extractStridedSlice S1x4 ![0, 0] (U (Proc.devRef .tc main_arg4)) slices_S2x4_S1x4_0_0) shapeCasts_S1x4_S4))) (broadcastInDim S4x16384x16384 ![0, 1, 2] bcast_S1x16384x16384_S4x16384x16384_0_1_2 (broadcastInDim S1x16384x16384 ![1, 2] bcast_S16384x16384_S1x16384x16384_1_2 (select (res_main_v126 U) (Host.negf (res_main_v97 U)) (broadcastInDim S16384x16384 ![] bcast_S_S16384x16384 (id (constant S_ .f32 0x00000000#32)))))))) (broadcastInDim S4x16384x16384 ![] bcast_S_S4x16384x16384 (id (constant S_ .f32 0x00000000#32)))

/-- The retention under a decay. -/
def partM (V Q K : FVec Ideal S2x16384x4x128 .f32) (M : FVec Ideal S4x16384x16384 .f32) : FVec Ideal S2x16384x4x128 .f32 :=
  transpose S2x16384x4x128 [0, 3, 1, 2] (Host.dotGeneral (φ₁ := .f32) (φ₂ := .f32) dot_S2x16384x4x128_S2x4x16384x16384_S2x4x128x16384_1_3_3_2_02_01 none V (mulf (Host.dotGeneral (φ₁ := .f32) (φ₂ := .f32) dot_S2x16384x4x128_S2x16384x4x128_S2x4x16384x16384_3_3_1_1_02_02 none Q K) (broadcastInDim S2x4x16384x16384 ![0, 1, 2, 3] bcast_S1x4x16384x16384_S2x4x16384x16384_0_1_2_3 (broadcastInDim S1x4x16384x16384 ![1, 2, 3] bcast_S4x16384x16384_S1x4x16384x16384_1_2_3 M)))) transposes_S2x4x128x16384_S2x16384x4x128_0_3_1_2

/-- The retention is the sum of the two. -/
theorem v141_parts : res_main_v141 U = addf (partM (res_main_v90 U) (res_main_v56 U) (res_main_v89 U) (fwM U)) (partM (res_main_v90 U) (res_main_v56 U) (res_main_v89 U) (bwM U)) := by
  unfold res_main_v141 partM fwM bwM
  rfl

/-- The forward decay's entry. -/
theorem fwM_eq (h : Fin 4) (n x : Fin 16384) : fwM U (ix3 h n x) =
    Scalar.select (IntOp.cmpi .sge (BitVec.ofNat 32 n.val) (BitVec.ofNat 32 x.val))
      (Ideal.exp (HMul.hMul (α := EReal) (U (Proc.devRef .tc main_arg3) (ix2 0 h)) (Scalar.select (IntOp.cmpi .sge (BitVec.ofNat 32 n.val) (BitVec.ofNat 32 x.val))
        (FloatOps.sitofp (F := Ideal) .f32 (IntOp.subi (BitVec.ofNat 32 n.val) (BitVec.ofNat 32 x.val))) 0))) 0 := by
  unfold fwM res_main_v97 res_main_v104 res_main_v91
  pointwise [id]

/-- The backward decay's entry. -/
theorem bwM_eq (h : Fin 4) (n x : Fin 16384) : bwM U (ix3 h n x) =
    Scalar.select (IntOp.cmpi .slt (BitVec.ofNat 32 n.val) (BitVec.ofNat 32 x.val))
      (Ideal.exp (HMul.hMul (α := EReal) (U (Proc.devRef .tc main_arg4) (ix2 0 h)) (Scalar.select (IntOp.cmpi .slt (BitVec.ofNat 32 n.val) (BitVec.ofNat 32 x.val))
        (-FloatOps.sitofp (F := Ideal) .f32 (IntOp.subi (BitVec.ofNat 32 n.val) (BitVec.ofNat 32 x.val))) 0))) 0 := by
  unfold bwM res_main_v97 res_main_v126 res_main_v91
  pointwise [id]

/-- The retention under a decay, entry by entry. -/
theorem partM_eq (V Q K : FVec Ideal S2x16384x4x128 .f32) (M : FVec Ideal S4x16384x16384 .f32) (b : Fin 2) (n : Fin 16384) (h : Fin 4) (e : Fin 128) : partM V Q K M (ix4 b n h e) =
    ∑ x : Fin 16384, HMul.hMul (α := EReal) (V (ix4 b x h e))
      ((∑ d : Fin 128, HMul.hMul (α := EReal) (Q (ix4 b n h d)) (K (ix4 b x h d))) * M (ix3 h n x)) := by
  unfold partM
  pointwise

/-- A sum's entry. -/
theorem sum_entry (A B : FVec Ideal S2x16384x4x128 .f32) (b : Fin 2) (n : Fin 16384) (h : Fin 4) (d : Fin 128) :
    (addf A B : FVec Ideal S2x16384x4x128 .f32) (ix4 b n h d) = HAdd.hAdd (α := EReal) (A (ix4 b n h d)) (B (ix4 b n h d)) := rfl

/-- The retention before the norm. -/
theorem v141_eq (b : Fin 2) (n : Fin 16384) (h : Fin 4) (e : Fin 128) : res_main_v141 U (ix4 b n h e) =
    yS (fun n h d => res_main_v56 U (ix4 b n h d)) (fun n h d => res_main_v89 U (ix4 b n h d)) (fun n h d => res_main_v90 U (ix4 b n h d))
      (fun h => U (Proc.devRef .tc main_arg3) (ix2 0 h)) (fun h => U (Proc.devRef .tc main_arg4) (ix2 0 h)) n h e := by
  rw [v141_parts]
  refine (sum_entry _ _ b n h e).trans ?_
  rw [partM_eq, partM_eq]
  unfold yS
  simp only [fwM_eq, bwM_eq]

end Cert.ReferenceIdeal.Value
end
-- ==== Proof.MixVal.lean ====
module

public import proofs.«01_k».proof.Proof.MixCore
public import proofs.«01_k».proof.Proof.MixRot
public import proofs.«01_k».proof.Proof.MixRefB
public import proofs.«01_k».proof.Proof.MixRefC
public import proofs.«01_k».proof.Proof.MixRefD

@[expose] public section
set_option maxRecDepth 16384
noncomputable section

/-!
# The retention of the kernel is the retention of the reference
-/

namespace Cert.MixVal

open Idealize.ShloMosaic Idealize.ShloMosaic.TcCoe
open Cert.KernelIdeal Cert.KernelIdeal.Mix Cert.MixReal Cert.MixSpec Cert.MixNum Cert.MixCore Cert.MixRot
open Cert.ReferenceIdeal.Value (pR rotR yS res_main_v141 res_main_v56 res_main_v89 res_main_v90 v141_eq v56_eq v89_eq v90_eq)

/-- The reference's two masked sums over real numbers are the retention. -/
theorem yS_real {q k v : Fin 16384 → Fin 4 → Fin 128 → EReal} {lf lb : Fin 4 → EReal} {n : Fin 16384} {h : Fin 4} {e : Fin 128}
    {qr : Fin 128 → ℝ} {kr : ℕ → Fin 128 → ℝ} {vr : ℕ → ℝ} {l1 l2 : ℝ}
    (hq : ∀ d, q n h d = (qr d : EReal)) (hk : ∀ (x : Fin 16384) d, k x h d = (kr x.val d : EReal))
    (hv : ∀ x : Fin 16384, v x h e = (vr x.val : EReal)) (hf : lf h = (l1 : EReal)) (hb : lb h = (l2 : EReal)) :
    yS q k v lf lb n h e = (ret l1 l2 16384 qr kr vr n.val : EReal) := by
  have hs : ∀ x : Fin 16384, ∑ d, q n h d * k x h d = ((∑ d, qr d * kr x.val d : ℝ) : EReal) := fun x => by
    rw [← coe_sum]
    exact Finset.sum_congr rfl fun d _ => by rw [hq, hk, EReal.coe_mul]
  unfold yS
  rw [← ret_parts, EReal.coe_add, Finset.sum_range, Finset.sum_range, ← coe_sum, ← coe_sum]
  refine congrArg₂ (fun x y : EReal => x + y) (Finset.sum_congr rfl fun x _ => ?_) (Finset.sum_congr rfl fun x _ => ?_)
  · rw [hs, hv, hf, cmp_sge _ _ (by omega) (by omega), sub_real _ _ (by omega) (by omega)]
    by_cases hx : x.val ≤ n.val
    · rw [if_pos hx, if_pos hx, ValueIdx.select_one, ValueIdx.select_one, ← EReal.coe_mul, Ideal.exp_coe, ← EReal.coe_mul, ← EReal.coe_mul]
      exact congrArg Real.toEReal (mul_comm _ _)
    · rw [if_neg hx, if_neg hx, ValueIdx.select_zero, mul_zero, mul_zero, mul_zero, zero_mul]; rfl
  · rw [hs, hv, hb, cmp_slt _ _ (by omega) (by omega), sub_real _ _ (by omega) (by omega)]
    by_cases hx : n.val < x.val
    · rw [if_pos hx, if_pos hx, ValueIdx.select_one, ValueIdx.select_one, ← EReal.coe_neg, ← EReal.coe_mul, Ideal.exp_coe, ← EReal.coe_mul, ← EReal.coe_mul, neg_sub]
      exact congrArg Real.toEReal (mul_comm _ _)
    · rw [if_neg hx, if_neg hx, ValueIdx.select_zero, mul_zero, mul_zero, mul_zero, zero_mul]; rfl

variable {U : Valuation ReferenceIdeal.τ ReferenceIdeal.sig (Elt Ideal)}
  {X : Vec Ideal S2x16384x1024 .f32} {G : Vec Ideal S2x1x1024 .f32} {W : Vec Ideal S2x1024x2560 .bf16}
  {B : Vec Ideal S16x2x8x128 .f32} {T : Vec Ideal S4x1024x128 .f32}
  {LF LB : Vec Ideal S2x4 .f32} {Q K VV : Vec Ideal S2x16384x512 .bf16} {ST : Vec Ideal S2x16x8x128x128 .f32}
  {KV : Vec Ideal S2x16x8x128x128 .bf16} {MA : Vec Ideal S2x4x256x256 .f32} {DE : Vec Ideal S2x4x4x256x128 .bf16}

/-- A rotated projection is a real number when the projections are. -/
theorem rotR_real (hp : ∀ b n (c : Fin 4608), c.val < 1536 → ∃ r : ℝ, pR U b n c = (r : EReal)) (off : ℕ) (ho : off ≤ 512)
    (b : Fin 2) (n : Fin 16384) (h : Fin 4) (d : Fin 128) : ∃ r : ℝ, rotR U off ho b n h d = (r : EReal) := by
  obtain ⟨f, hf⟩ := frq_real
  obtain ⟨x, hx⟩ := hp b n ⟨off + (128 * h.val + 2 * (d.val / 2)), by omega⟩ (by dsimp only; omega)
  obtain ⟨y, hy⟩ := hp b n ⟨off + (128 * h.val + (2 * (d.val / 2) + 1)), by omega⟩ (by dsimp only; omega)
  unfold rotR
  rw [hx, hy, hf, pos_real _ (by omega), ← EReal.coe_mul, Ideal.cos_coe, Ideal.sin_coe]
  split
  · exact ⟨_, by rw [← EReal.coe_mul, ← EReal.coe_mul, ← EReal.coe_sub]⟩
  · exact ⟨_, by rw [← EReal.coe_mul, ← EReal.coe_mul, ← EReal.coe_add]⟩

/-- A position as a token. -/
def fin (m : ℕ) : Fin 16384 := ⟨m % 16384, by omega⟩

/-- A token's position is the token. -/
theorem fin_val (n : Fin 16384) : fin n.val = n := Fin.ext (Nat.mod_eq_of_lt n.isLt)

/-- The retention before the norm, of the kernel and of the reference. -/
theorem y_eq (hB : BaseOk B) (hT : RowsOk T) (hC : ColsOk U X G W)
    (hp : ∀ b n (c : Fin 4608), c.val < 1536 → ∃ r : ℝ, pR U b n c = (r : EReal))
    (hLF : ∀ h : Fin 4, LF (ix2 0 h) = U (Proc.devRef .tc ReferenceIdeal.main_arg3) (ix2 0 h))
    (hLB : ∀ h : Fin 4, LB (ix2 0 h) = U (Proc.devRef .tc ReferenceIdeal.main_arg4) (ix2 0 h))
    (hl : ∀ h : Fin 4, ∃ r : ℝ, LF (ix2 0 h) = (r : EReal)) (hl' : ∀ h : Fin 4, ∃ r : ℝ, LB (ix2 0 h) = (r : EReal))
    (hQ : ∀ b n col, Q (ix3 b n col) = qF X G W B T b n col) (hK : ∀ b n col, K (ix3 b n col) = kF X G W B T b n col)
    (hV : ∀ b n col, VV (ix3 b n col) = vF X G W b n col)
    (hKV : ∀ b t p d e, KV (ix5 b t p d e) = kvF X G W B T LF LB b t p d e)
    (hST : ∀ b t p d e, ST (ix5 b t p d e) = stA LF LB KV b t p d e)
    (hMA : ∀ (h : Fin 4) (r j : Fin 256), MA (ix4 0 h r j) = maskE (LF (ix2 0 h)) (LB (ix2 0 h)) r.val j.val)
    (hDE : ∀ (h i : Fin 4) (r : Fin 256) (d : Fin 128), DE (ix5 0 h i r d) = decE (LF (ix2 0 h)) (LB (ix2 0 h)) i.val r.val)
    (b : Fin 2) (t : Fin 16) (h : Fin 4) (n : ℕ) (hn : n < 4) (r : Fin 256) (e : Fin 128) (N : Fin 16384)
    (hN : N.val = 1024 * t.val + 256 * n + r.val) :
    yA LF LB Q K VV ST MA DE b t h n r e = res_main_v141 U (ix4 b N h e) := by
  obtain ⟨l1, h1⟩ := hl h
  obtain ⟨l2, h2⟩ := hl' h
  obtain ⟨s, hs⟩ := lit_ks
  choose rq hrq using fun (n : Fin 16384) (d : Fin 128) => rotR_real hp 0 (by decide) b n h d
  choose rk hrk using fun (n : Fin 16384) (d : Fin 128) => rotR_real hp 512 (by decide) b n h d
  choose rv hrv using fun (n : Fin 16384) => hp b n ⟨1024 + (128 * h.val + e.val), by omega⟩ (by dsimp only; omega)
  have hk : ∀ (d : Fin 128) (n : Fin 16384), rotR U 512 (by decide) b n h (perm d) * Ideal.ofBits .f32 0x3DB504F3#32 = ((rk (fin n.val) (perm d) * s : ℝ) : EReal) := fun d n => by
    rw [fin_val, hrk, hs, EReal.coe_mul]
  have hv : ∀ n : Fin 16384, pR U b n ⟨1024 + (128 * h.val + e.val), by omega⟩ = (rv (fin n.val) : EReal) := fun n => by
    rw [fin_val, hrv]
  rw [y_ret (lf := l1) (lb := l2) (q := fun m d => rq (fin m) (perm d)) (k := fun m d => rk (fin m) (perm d) * s) (v := fun m => rv (fin m))
    h1 h2 (fun n d => by rw [hQ, qF_eq hB hT hC, fin_val, hrq])
    (fun n d => by rw [hK, kF_eq hB hT hC, hk]) (fun n => by rw [hV, vF_eq hC, hv])
    (fun r j => by rw [hMA, h1, h2, mask_real _ _ _ _ (by omega) (by omega)])
    (fun r d => by rw [hDE, h1, h2]; exact dec0 _ _ _ (by omega)) (fun r d => by rw [hDE, h1, h2]; exact dec1 _ _ _ (by omega))
    (fun r d => by rw [hDE, h1, h2]; exact dec2 _ _ _ (by omega)) (fun r d => by rw [hDE, h1, h2]; exact dec3 _ _ _ (by omega))
    (fun d => by rw [hST]; exact st_fw h1 (fun t => by rw [hKV]; exact kvF_fw hB hT hC h1 (hk d) hv t) t)
    (fun d => by rw [hST]; exact st_bw h2 (fun t => by rw [hKV]; exact kvF_bw hB hT hC h2 (hk d) hv t) t) n hn r]
  rw [v141_eq, yS_real (qr := fun d => rq N d) (kr := fun m d => rk (fin m) d * s) (vr := fun m => rv (fin m)) (l1 := l1) (l2 := l2)
    (fun d => by rw [v56_eq, hrq]) (fun x d => by rw [v89_eq, hrk, hs, fin_val, EReal.coe_mul])
    (fun x => by rw [v90_eq, hrv, fin_val]) ((hLF h).symm.trans h1) ((hLB h).symm.trans h2), ← hN]
  refine congrArg Real.toEReal ?_
  rw [fin_val]
  exact ret_perm l1 l2 16384 (rq N) (fun m d => rk (fin m) d * s) _ _

end Cert.MixVal
end
-- ==== Proof.MixRefE.lean ====
module

public import proofs.«01_k».proof.Proof.MixRefA
public import proofs.«01_k».proof.Proof.MixOut
public import Idealize.ShloMosaic.Lib.Pointwise
public import Idealize.ShloMosaic.Lib.Tactic
public import Idealize.ShloMosaic.Lib.Pipeline.ValueKit

@[expose] public section
set_option maxRecDepth 16384
set_option maxHeartbeats 4000000
noncomputable section

/-!
# The result of the reference
-/

namespace Cert.ReferenceIdeal.Value

open Idealize.ShloMosaic Idealize.ShloMosaic.TcCoe Idealize.SL.Sem
open Cert.ReferenceIdeal

variable (U : Valuation τ sig (Elt Ideal))

/-- The result from the retained rows. -/
theorem res_eq (b : Fin 2) (n : Fin 16384) (col : Fin 1024) : val4 U (Proc.devRef .tc main_v186) (ix3 b n col) =
    HAdd.hAdd (α := EReal) (U (Proc.devRef .tc main_arg0) (ix3 b n col)) (∑ j : Fin 1024,
      (Ideal.logistic (pR U b n ⟨2560 + j.val, by omega⟩) * (∑ k : Fin 512, (pR U b n ⟨1536 + k.val, by omega⟩ * Ideal.logistic (pR U b n ⟨1536 + k.val, by omega⟩) *
          KernelIdeal.Mix.gn (fun e => res_main_v141 U (ix4 b n ⟨k.val / 128, by omega⟩ e)) ⟨k.val % 128, by omega⟩) * U (Proc.devRef .tc main_arg6) (ix3 0 k j)) +
        Ideal.logistic (pR U b n ⟨3584 + j.val, by omega⟩) * (∑ k : Fin 512, HMul.hMul (α := EReal) (β := EReal) (U (Proc.devRef .tc main_arg5) (ix3 b n k)) (U (Proc.devRef .tc main_arg7) (ix3 0 k j)))) *
        U (Proc.devRef .tc main_arg8) (ix3 0 j col)) := by
  rw [val4_main_v186]
  unfold res_main_v147 KernelIdeal.Mix.gn KernelIdeal.Mix.gnc
  pointwise
  simp only [v17_eq, v21_eq]
  rfl

end Cert.ReferenceIdeal.Value
end
-- ==== Proof.MixEq.lean ====
module

public import proofs.«01_k».proof.Proof.MixVal
public import proofs.«01_k».proof.Proof.MixRefE

@[expose] public section
set_option maxRecDepth 16384
noncomputable section

/-!
# The kernel's output is the reference's
-/

namespace Cert.MixEq

open Idealize.ShloMosaic Idealize.ShloMosaic.TcCoe
open Cert.KernelIdeal Cert.KernelIdeal.Mix Cert.MixReal Cert.MixSpec Cert.MixRot Cert.MixVal
open Cert.ReferenceIdeal.Value (pR res_main_v141 res_eq val4)

variable {U : Valuation ReferenceIdeal.τ ReferenceIdeal.sig (Elt Ideal)}
  {X : Vec Ideal S2x16384x1024 .f32} {G : Vec Ideal S2x1x1024 .f32} {W : Vec Ideal S2x1024x2560 .bf16}
  {B : Vec Ideal S16x2x8x128 .f32} {T : Vec Ideal S4x1024x128 .f32}
  {LF LB : Vec Ideal S2x4 .f32} {Q K VV GS : Vec Ideal S2x16384x512 .bf16} {ST : Vec Ideal S2x16x8x128x128 .f32}
  {KV : Vec Ideal S2x16x8x128x128 .bf16} {MA : Vec Ideal S2x4x256x256 .f32} {DE : Vec Ideal S2x4x4x256x128 .bf16}
  {FR : Vec Ideal S2x16384x512 .bf16} {WG : Vec Ideal S2x1024x2048 .bf16} {WR WF : Vec Ideal S2x512x1024 .bf16} {WM : Vec Ideal S2x1024x1024 .bf16}

/-- A gate's projection. -/
theorem gate_eq (hX : ∀ b n j, X (ix3 b n j) = U (Proc.devRef .tc ReferenceIdeal.main_arg0) (ix3 b n j))
    (hG : ∀ j, G (ix3 0 0 j) = U (Proc.devRef .tc ReferenceIdeal.main_arg1) (ix2 0 j))
    (hWG : ∀ (k : Fin 1024) (c : Fin 2048), WG (ix3 0 k c) = U (Proc.devRef .tc ReferenceIdeal.main_arg2) (ix3 0 k ⟨2560 + c.val, by omega⟩))
    (b : Fin 2) (n : Fin 16384) (c : Fin 2048) (c' : Fin 4608) (h : c'.val = 2560 + c.val) :
    Rows.proj (fun k => X (ix3 b n k)) (fun k => G (ix3 0 0 k)) (fun k => WG (ix3 0 k c)) = pR U b n c' := by
  unfold pR
  have e : c' = ⟨2560 + c.val, by omega⟩ := Fin.ext h
  rw [e]
  simp only [hX, hG, hWG]

/-- The kernel's output is the reference's, entry by entry. -/
theorem out_eq (hB : BaseOk B) (hT : RowsOk T) (hC : ColsOk U X G W)
    (hp : ∀ b n (c : Fin 4608), c.val < 1536 → ∃ r : ℝ, pR U b n c = (r : EReal))
    (hLF : ∀ h : Fin 4, LF (ix2 0 h) = U (Proc.devRef .tc ReferenceIdeal.main_arg3) (ix2 0 h))
    (hLB : ∀ h : Fin 4, LB (ix2 0 h) = U (Proc.devRef .tc ReferenceIdeal.main_arg4) (ix2 0 h))
    (hl : ∀ h : Fin 4, ∃ r : ℝ, LF (ix2 0 h) = (r : EReal)) (hl' : ∀ h : Fin 4, ∃ r : ℝ, LB (ix2 0 h) = (r : EReal))
    (hQ : ∀ b n col, Q (ix3 b n col) = qF X G W B T b n col) (hK : ∀ b n col, K (ix3 b n col) = kF X G W B T b n col)
    (hV : ∀ b n col, VV (ix3 b n col) = vF X G W b n col) (hGS : ∀ b n col, GS (ix3 b n col) = gF X G W b n col)
    (hKV : ∀ b t p d e, KV (ix5 b t p d e) = kvF X G W B T LF LB b t p d e)
    (hST : ∀ b t p d e, ST (ix5 b t p d e) = stA LF LB KV b t p d e)
    (hMA : ∀ (h : Fin 4) (r j : Fin 256), MA (ix4 0 h r j) = maskE (LF (ix2 0 h)) (LB (ix2 0 h)) r.val j.val)
    (hDE : ∀ (h i : Fin 4) (r : Fin 256) (d : Fin 128), DE (ix5 0 h i r d) = decE (LF (ix2 0 h)) (LB (ix2 0 h)) i.val r.val)
    (hX : ∀ b n j, X (ix3 b n j) = U (Proc.devRef .tc ReferenceIdeal.main_arg0) (ix3 b n j))
    (hG : ∀ j, G (ix3 0 0 j) = U (Proc.devRef .tc ReferenceIdeal.main_arg1) (ix2 0 j))
    (hFR : ∀ b n k, FR (ix3 b n k) = U (Proc.devRef .tc ReferenceIdeal.main_arg5) (ix3 b n k))
    (hWG : ∀ (k : Fin 1024) (c : Fin 2048), WG (ix3 0 k c) = U (Proc.devRef .tc ReferenceIdeal.main_arg2) (ix3 0 k ⟨2560 + c.val, by omega⟩))
    (hWR : ∀ k j, WR (ix3 0 k j) = U (Proc.devRef .tc ReferenceIdeal.main_arg6) (ix3 0 k j))
    (hWF : ∀ k j, WF (ix3 0 k j) = U (Proc.devRef .tc ReferenceIdeal.main_arg7) (ix3 0 k j))
    (hWM : ∀ k j, WM (ix3 0 k j) = U (Proc.devRef .tc ReferenceIdeal.main_arg8) (ix3 0 k j))
    (b : Fin 2) (n : Fin 16384) (col : Fin 1024) :
    oF LF LB X G Q K VV GS ST MA DE FR WG WR WF WM b n col = val4 U (Proc.devRef .tc ReferenceIdeal.main_v186) (ix3 b n col) := by
  have hr : ∀ k : Fin 512, retA LF LB Q K VV GS ST MA DE b (tileOf n) (rowOf n) k =
      pR U b n ⟨1536 + k.val, by omega⟩ * Ideal.logistic (pR U b n ⟨1536 + k.val, by omega⟩) *
        gn (fun e => res_main_v141 U (ix4 b n ⟨k.val / 128, by omega⟩ e)) ⟨k.val % 128, by omega⟩ := fun k => by
    have ht : tok (tileOf n) (rowOf n) = n := Fin.ext (by unfold tok tileOf rowOf; dsimp only; omega)
    have hy : yA LF LB Q K VV ST MA DE b (tileOf n) ⟨k.val / 128, by omega⟩ ((rowOf n).val / 256) ⟨(rowOf n).val % 256, by omega⟩ =
        fun e => res_main_v141 U (ix4 b n ⟨k.val / 128, by omega⟩ e) := funext fun e =>
      y_eq hB hT hC hp hLF hLB hl hl' hQ hK hV hKV hST hMA hDE b (tileOf n) ⟨k.val / 128, by omega⟩ _ (by omega) _ e n
        (by unfold tileOf rowOf; dsimp only; omega)
    unfold retA
    rw [ht, hy, hGS, gF_eq hC]
  rw [res_eq]
  unfold oF mrgA
  rw [hX]
  refine congrArg (fun x : EReal => _ + x) (Finset.sum_congr rfl fun j _ => ?_)
  rw [gate_eq hX hG hWG b n ⟨j.val, by omega⟩ ⟨2560 + j.val, by omega⟩ rfl,
    gate_eq hX hG hWG b n ⟨1024 + j.val, by omega⟩ ⟨3584 + j.val, by omega⟩ (by dsimp only; omega), hWM]
  simp only [hr, hFR, hWR, hWF]

end Cert.MixEq
end
-- ==== Proof.MixPre.lean ====
module

public import proofs.«01_k».proof.Proof.Gen.Pre_finite
public import proofs.«01_k».proof.Proof.MixSpec
public import Idealize.ShloMosaic.Lib.Pointwise
public import Idealize.ShloMosaic.Lib.Tactic

@[expose] public section
set_option maxRecDepth 16384
noncomputable section

/-!
# What the precondition says

The gains, the columns of the queries, keys and values, and the log decays of the mixer's layer are real numbers.
-/

namespace Cert.MixPre

open Idealize.ShloMosaic Idealize.ShloMosaic.TcCoe
open Cert.Pre_finite Cert.Pre_finite.Gen

variable (a0 : FVec Ideal S2x16384x1024 .f32) (a1 : FVec Ideal S2x1024 .f32) (a2 : FVec Ideal S2x1024x4608 .f32)
  (a3 a4 : FVec Ideal S2x4 .f32) (a5 : FVec Ideal S2x16384x512 .bf16) (a6 a7 : FVec Ideal S2x512x1024 .f32) (a8 : FVec Ideal S2x1024x1024 .f32)

/-- Strictly between the two infinities. -/
def between (x : EReal) : BitVec 1 :=
  IntOp.andi (FloatOps.cmpf (F := Ideal) (φ := .f32) .ogt x (Ideal.ofBits .f32 0xFF800000#32)) (FloatOps.cmpf (F := Ideal) (φ := .f32) .olt x (Ideal.ofBits .f32 0x7F800000#32))

/-- The gains' test. -/
theorem test_g (j : Fin 1024) : (fn a0 a1 a2 a3 a4 a5 a6 a7 a8).1 (ix1 j) = between (a1 (ix2 0 j)) := by
  unfold fn fn_part1 between
  dsimp only
  pointwise

/-- The columns' test. -/
theorem test_w (j : Fin 1024) (c : Fin 1536) : (fn a0 a1 a2 a3 a4 a5 a6 a7 a8).2.1 (ix2 j c) = between (a2 (ix3 0 j ⟨c.val, by omega⟩)) := by
  unfold fn fn_part1 between
  dsimp only
  pointwise

/-- The forward log decays' test. -/
theorem test_f (h : Fin 4) : (fn a0 a1 a2 a3 a4 a5 a6 a7 a8).2.2.1 (ix1 h) = between (a3 (ix2 0 h)) := by
  unfold fn fn_part1 between
  dsimp only
  pointwise

/-- The backward log decays' test. -/
theorem test_b (h : Fin 4) : (fn a0 a1 a2 a3 a4 a5 a6 a7 a8).2.2.2 (ix1 h) = between (a4 (ix2 0 h)) := by
  unfold fn fn_part1 between
  dsimp only
  pointwise

/-- What passes the test is a real number. -/
theorem real_between {x : EReal} (h : between x = 1#1) : ∃ r : ℝ, x = (r : EReal) := by
  have hb : Ideal.ofBits .f32 0xFF800000#32 = ⊥ := by simp [Ideal.ofBits, Ideal.ieee]
  have ht : Ideal.ofBits .f32 0x7F800000#32 = ⊤ := by simp [Ideal.ofBits, Ideal.ieee]
  unfold between at h
  rw [hb, ht] at h
  induction x with
  | bot => simp [FloatOps.cmpf, Ideal.cmp, IntOp.andi] at h
  | top => simp [FloatOps.cmpf, Ideal.cmp, IntOp.andi] at h
  | coe r => exact ⟨r, rfl⟩

end Cert.MixPre
end
-- ==== Proof.MixFin1.lean ====
module

public import proofs.«01_k».proof.Proof.MixArr1

@[expose] public section
set_option maxRecDepth 16384
set_option maxHeartbeats 4000000
noncomputable section

/-!
# The arrays of the projections, assembled from their blocks

Every block that the second call writes back is a part of the array it is claimed to leave.
-/

namespace Cert.KernelIdeal.Mix

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-- The values' array. -/
theorem v_final (c : Dev nD) : (dat1 V c).arrAt 9 cfg1.N =
    fun i => vF (V c main_arg0) (V c main_v8) (V c main_v7) (i 0) (i 1) (i 2) := by
  refine (dat1 V c).arrAt_eq_of_covers 9 _ (by decide +kernel) fun t hf y => ?_
  show (dat1 V c).after _ t y = _
  rw [after1_9]
  unfold outsAt1
  idx_vars y
  have e0 : (((cfg1.win 9).blk t).view.emb (ix3 y0 y1 y2) 0 : ℕ) = t.val / 16 := by blk_simp [idx1_9 t]
  have e1 : (((cfg1.win 9).blk t).view.emb (ix3 y0 y1 y2) 1 : ℕ) = 1024 * (t.val % 16) + y1.val := by blk_simp [idx1_9 t]; omega
  have e2 : ((cfg1.win 9).blk t).view.emb (ix3 y0 y1 y2) 2 = y2 := by apply Fin.ext; blk_simp [idx1_9 t]
  rw [e2]
  generalize ((cfg1.win 9).blk t).view.emb (ix3 y0 y1 y2) 0 = b at e0 ⊢
  generalize ((cfg1.win 9).blk t).view.emb (ix3 y0 y1 y2) 1 = n at e1 ⊢
  exact (out1_v c _ _ _ _ _ _ _ _ _ _ _ _ _ _ _ _ _ _ _ _ _ _ _ _ _ _ _ _ _ _ _ _ _ _ y0 y1 y2).trans (pj_of (rd1_2 V c t b n y1 e0 e1) (rd1_3 V c t) (rd1_4 V c t) _)

/-- The gates' array. -/
theorem gs_final (c : Dev nD) : (dat1 V c).arrAt 10 cfg1.N =
    fun i => gF (V c main_arg0) (V c main_v8) (V c main_v7) (i 0) (i 1) (i 2) := by
  refine (dat1 V c).arrAt_eq_of_covers 10 _ (by decide +kernel) fun t hf y => ?_
  show (dat1 V c).after _ t y = _
  rw [after1_10]
  unfold outsAt1
  idx_vars y
  have e0 : (((cfg1.win 10).blk t).view.emb (ix3 y0 y1 y2) 0 : ℕ) = t.val / 16 := by blk_simp [idx1_10 t]
  have e1 : (((cfg1.win 10).blk t).view.emb (ix3 y0 y1 y2) 1 : ℕ) = 1024 * (t.val % 16) + y1.val := by blk_simp [idx1_10 t]; omega
  have e2 : ((cfg1.win 10).blk t).view.emb (ix3 y0 y1 y2) 2 = y2 := by apply Fin.ext; blk_simp [idx1_10 t]
  rw [e2]
  generalize ((cfg1.win 10).blk t).view.emb (ix3 y0 y1 y2) 0 = b at e0 ⊢
  generalize ((cfg1.win 10).blk t).view.emb (ix3 y0 y1 y2) 1 = n at e1 ⊢
  exact (out1_gs c _ _ _ _ _ _ _ _ _ _ _ _ _ _ _ _ _ _ _ _ _ _ _ _ _ _ _ _ _ _ _ _ _ _ y0 y1 y2).trans (pj_of (rd1_2 V c t b n y1 e0 e1) (rd1_3 V c t) (rd1_4 V c t) _)

/-- The queries' array. -/
theorem q_final (c : Dev nD) : (dat1 V c).arrAt 7 cfg1.N =
    fun i => qF (V c main_arg0) (V c main_v8) (V c main_v7) (V c main_v37) (V c main_v53) (i 0) (i 1) (i 2) := by
  refine (dat1 V c).arrAt_eq_of_covers 7 _ (by decide +kernel) fun t hf y => ?_
  show (dat1 V c).after _ t y = _
  rw [after1_7]
  unfold outsAt1
  idx_vars y
  have e0 : (((cfg1.win 7).blk t).view.emb (ix3 y0 y1 y2) 0 : ℕ) = t.val / 16 := by blk_simp [idx1_7 t]
  have e1 : (((cfg1.win 7).blk t).view.emb (ix3 y0 y1 y2) 1 : ℕ) = 1024 * (t.val % 16) + y1.val := by blk_simp [idx1_7 t]; omega
  have e2 : ((cfg1.win 7).blk t).view.emb (ix3 y0 y1 y2) 2 = y2 := by apply Fin.ext; blk_simp [idx1_7 t]
  rw [e2]
  generalize ((cfg1.win 7).blk t).view.emb (ix3 y0 y1 y2) 0 = b at e0 ⊢
  generalize ((cfg1.win 7).blk t).view.emb (ix3 y0 y1 y2) 1 = n at e1 ⊢
  exact (out1_q c _ _ _ _ _ _ _ _ _ _ _ _ _ _ _ _ _ _ _ _ _ _ _ _ _ _ _ _ _ _ _ _ _ _ y0 y1 ⟨y2.val / 128, by omega⟩ ⟨y2.val % 128, by omega⟩ y2 (by dsimp only; omega)).trans (rq_of (rd1_2 V c t b n y1 e0 e1) (rd1_3 V c t) (rd1_4 V c t) (rd1_5 V c t (tileOf n) (by unfold tileOf; dsimp only; omega)) (fun p d => (congrArg (fun z => iblk1 V c 6 t (ix3 p z d)) (show y1 = rowOf n from Fin.ext (by unfold rowOf; dsimp only; omega))).trans (rd1_6 V c t p (rowOf n) d)) _ _)

/-- The keys' array. -/
theorem k_final (c : Dev nD) : (dat1 V c).arrAt 8 cfg1.N =
    fun i => kF (V c main_arg0) (V c main_v8) (V c main_v7) (V c main_v37) (V c main_v53) (i 0) (i 1) (i 2) := by
  refine (dat1 V c).arrAt_eq_of_covers 8 _ (by decide +kernel) fun t hf y => ?_
  show (dat1 V c).after _ t y = _
  rw [after1_8]
  unfold outsAt1
  idx_vars y
  have e0 : (((cfg1.win 8).blk t).view.emb (ix3 y0 y1 y2) 0 : ℕ) = t.val / 16 := by blk_simp [idx1_8 t]
  have e1 : (((cfg1.win 8).blk t).view.emb (ix3 y0 y1 y2) 1 : ℕ) = 1024 * (t.val % 16) + y1.val := by blk_simp [idx1_8 t]; omega
  have e2 : ((cfg1.win 8).blk t).view.emb (ix3 y0 y1 y2) 2 = y2 := by apply Fin.ext; blk_simp [idx1_8 t]
  rw [e2]
  generalize ((cfg1.win 8).blk t).view.emb (ix3 y0 y1 y2) 0 = b at e0 ⊢
  generalize ((cfg1.win 8).blk t).view.emb (ix3 y0 y1 y2) 1 = n at e1 ⊢
  exact (out1_k c _ _ _ _ _ _ _ _ _ _ _ _ _ _ _ _ _ _ _ _ _ _ _ _ _ _ _ _ _ _ _ _ _ _ y0 y1 ⟨y2.val / 128, by omega⟩ ⟨y2.val % 128, by omega⟩ y2 (by dsimp only; omega)).trans (rk_of (rd1_2 V c t b n y1 e0 e1) (rd1_3 V c t) (rd1_4 V c t) (rd1_5 V c t (tileOf n) (by unfold tileOf; dsimp only; omega)) (fun p d => (congrArg (fun z => iblk1 V c 6 t (ix3 p z d)) (show y1 = rowOf n from Fin.ext (by unfold rowOf; dsimp only; omega))).trans (rd1_6 V c t p (rowOf n) d)) _ _)

/-- The summaries' array: a head's forward summary, then its backward one. -/
theorem kv_final (c : Dev nD) : (dat1 V c).arrAt 12 cfg1.N =
    fun i => kvF (V c main_arg0) (V c main_v8) (V c main_v7) (V c main_v37) (V c main_v53) (V c main_arg3) (V c main_arg4) (i 0) (i 1) (i 2) (i 3) (i 4) := by
  refine (dat1 V c).arrAt_eq_of_covers 12 _ (by decide +kernel) fun t hf y => ?_
  show (dat1 V c).after _ t y = _
  rw [after1_12]
  unfold outsAt1
  idx_vars y
  have e0 : (((cfg1.win 12).blk t).view.emb (ix5 y0 y1 y2 y3 y4) 0 : ℕ) = t.val / 16 := by blk_simp [idx1_12 t]
  have e1 : (((cfg1.win 12).blk t).view.emb (ix5 y0 y1 y2 y3 y4) 1 : ℕ) = t.val % 16 := by blk_simp [idx1_12 t]
  have e2 : ((cfg1.win 12).blk t).view.emb (ix5 y0 y1 y2 y3 y4) 2 = y2 := by apply Fin.ext; blk_simp [idx1_12 t]
  have e3 : ((cfg1.win 12).blk t).view.emb (ix5 y0 y1 y2 y3 y4) 3 = y3 := by apply Fin.ext; blk_simp [idx1_12 t]
  have e4 : ((cfg1.win 12).blk t).view.emb (ix5 y0 y1 y2 y3 y4) 4 = y4 := by apply Fin.ext; blk_simp [idx1_12 t]
  rw [e2, e3, e4]
  generalize ((cfg1.win 12).blk t).view.emb (ix5 y0 y1 y2 y3 y4) 0 = b at e0 ⊢
  generalize ((cfg1.win 12).blk t).view.emb (ix5 y0 y1 y2 y3 y4) 1 = u at e1 ⊢
  unfold kvF
  by_cases hp : y2.val % 2 = 0
  · rw [if_pos hp]
    refine (out1_kvf c _ _ _ _ _ _ _ _ _ _ _ _ _ _ _ _ _ _ _ _ _ _ _ _ _ _ _ _ _ _ _ _ _ _ y0 y1 ⟨y2.val / 2, by omega⟩ y2 (by dsimp only; omega) y3 y4).trans ?_
    unfold kvfA
    refine Finset.sum_congr rfl fun r _ => ?_
    exact congrArg₂ (· * ·) (congrArg₂ (· * ·) (rk_of (rd1_2 V c t b (tok u r) r e0 (by unfold tok; dsimp only; omega)) (rd1_3 V c t) (rd1_4 V c t) (rd1_5 V c t (tileOf (tok u r)) (by unfold tileOf tok; dsimp only; omega)) (fun p d => (congrArg (fun z => iblk1 V c 6 t (ix3 p z d)) (show r = rowOf (tok u r) from Fin.ext (by unfold rowOf tok; dsimp only; omega))).trans (rd1_6 V c t p (rowOf (tok u r)) d)) _ _) (congrArg (fun z => Ideal.exp (z * _)) (rd1_0 V c t 0 _))) (pj_of (rd1_2 V c t b (tok u r) r e0 (by unfold tok; dsimp only; omega)) (rd1_3 V c t) (rd1_4 V c t) _)
  · rw [if_neg hp]
    refine (out1_kvb c _ _ _ _ _ _ _ _ _ _ _ _ _ _ _ _ _ _ _ _ _ _ _ _ _ _ _ _ _ _ _ _ _ _ y0 y1 ⟨y2.val / 2, by omega⟩ y2 (by dsimp only; omega) y3 y4).trans ?_
    unfold kvbA
    refine Finset.sum_congr rfl fun r _ => ?_
    exact congrArg₂ (· * ·) (congrArg₂ (· * ·) (rk_of (rd1_2 V c t b (tok u r) r e0 (by unfold tok; dsimp only; omega)) (rd1_3 V c t) (rd1_4 V c t) (rd1_5 V c t (tileOf (tok u r)) (by unfold tileOf tok; dsimp only; omega)) (fun p d => (congrArg (fun z => iblk1 V c 6 t (ix3 p z d)) (show r = rowOf (tok u r) from Fin.ext (by unfold rowOf tok; dsimp only; omega))).trans (rd1_6 V c t p (rowOf (tok u r)) d)) _ _) (congrArg (fun z => Ideal.exp (z * _)) (rd1_1 V c t 0 _))) (pj_of (rd1_2 V c t b (tok u r) r e0 (by unfold tok; dsimp only; omega)) (rd1_3 V c t) (rd1_4 V c t) _)

end Cert.KernelIdeal.Mix
end
-- ==== Proof.MixHost.lean ====
module

public import proofs.«01_k».proof.Proof.Gen.KernelIdeal.Frame
public import proofs.«01_k».proof.Proof.MixSpec
public import Idealize.ShloMosaic.Lib.Tactic
public import Idealize.ShloMosaic.Lib.Pipeline.ValueKit
public import Idealize.ShloMosaic.Lib.StableHlo.RunRead

@[expose] public section
set_option maxRecDepth 16384
set_option maxHeartbeats 4000000
noncomputable section

/-!
# The host's preparations

What the host's lines in front of the calls leave in the calls' operands, entry by entry.
-/

namespace Cert.KernelIdeal.Mix

open Idealize.ShloMosaic Idealize.ShloMosaic.TcCoe Idealize.SL.Sem
open Cert.KernelIdeal Cert.KernelIdeal.Gen

variable (U : Valuation τ sig (Elt Ideal))

/-- The gain with a unit axis. -/
theorem host_v8 (l : Fin 2) (j : Fin 1024) :
    StableHlo.after hostOps0 U (Proc.devRef .tc main_v8) (ix3 l 0 j) = U (Proc.devRef .tc main_arg1) (ix2 l j) := by
  unfold hostOps0
  after_reads_simp
  pointwise

/-- The query and key columns of the projection: the even dimensions of a head in front of the odd ones. -/
theorem host_v7_lo (j : Fin 1024) (c : Fin 2560) (hc : c.val < 1024) (c' : Fin 4608)
    (h' : c'.val = 128 * (c.val / 128) + (2 * (c.val % 64) + c.val / 64 % 2)) :
    StableHlo.after hostOps0 U (Proc.devRef .tc main_v7) (ix3 0 j c) = U (Proc.devRef .tc main_arg2) (ix3 0 j c') := by
  unfold hostOps0
  after_reads_simp
  pointwise
  rw [dif_pos hc]
  congr 2
  apply Fin.ext
  dsimp only
  omega

/-- The other columns of the projection. -/
theorem host_v7_hi (j : Fin 1024) (c : Fin 2560) (hc : ¬ c.val < 1024) (c' : Fin 4608) (h' : c'.val = c.val) :
    StableHlo.after hostOps0 U (Proc.devRef .tc main_v7) (ix3 0 j c) = U (Proc.devRef .tc main_arg2) (ix3 0 j c') := by
  unfold hostOps0
  after_reads_simp
  pointwise
  rw [dif_neg hc]
  congr 2
  apply Fin.ext
  dsimp only
  omega

/-- The inverse frequency of a dimension. -/
def frq (d : Fin 128) : EReal :=
  if h : d.val < 64 then
    Ideal.div 1 (Ideal.pow (Ideal.ofBits .f32 1176256512#32) (U (Proc.devRef .tc main_v10) (ix1 ⟨d.val, h⟩) : EReal))
  else
    Ideal.div 1 (Ideal.pow (Ideal.ofBits .f32 1176256512#32) (U (Proc.devRef .tc main_v10) (ix1 ⟨d.val - 64, by omega⟩) : EReal))

/-- The cosine of a tile's first position. -/
theorem host_v37_0 (t : Fin 16) (s : Fin 8) (d : Fin 128) :
    StableHlo.after hostOps1_2 U (Proc.devRef .tc main_v37) (ix4 t 0 s d) =
      Ideal.cos ((Ideal.ofBits .f32 1149239296#32 * FloatOps.sitofp (F := Ideal) .f32 (BitVec.ofNat 32 t.val)) * frq U d) := by
  unfold hostOps1_2 frq
  iterate 7 (try after_reads_simp; try pointwise)
  all_goals by_cases hd : d.val < 64 <;> simp only [hd, dite_true, dite_false, if_true, if_false, not_false_eq_true]

/-- The sine of a tile's first position. -/
theorem host_v37_1 (t : Fin 16) (s : Fin 8) (d : Fin 128) :
    StableHlo.after hostOps1_2 U (Proc.devRef .tc main_v37) (ix4 t 1 s d) =
      Ideal.sin ((Ideal.ofBits .f32 1149239296#32 * FloatOps.sitofp (F := Ideal) .f32 (BitVec.ofNat 32 t.val)) * frq U d) := by
  unfold hostOps1_2 frq
  iterate 7 (try after_reads_simp; try pointwise)
  all_goals by_cases hd : d.val < 64 <;> simp only [hd, dite_true, dite_false, if_true, if_false, not_false_eq_true]

/-- The cosine of a row's offset. -/
theorem host_v53_0 (r : Fin 1024) (d : Fin 128) :
    StableHlo.after hostOps1_2 U (Proc.devRef .tc main_v53) (ix3 0 r d) =
      Ideal.cos (FloatOps.sitofp (F := Ideal) .f32 (BitVec.ofNat 32 r.val) * frq U d) := by
  unfold hostOps1_2 frq
  iterate 7 (try after_reads_simp; try pointwise)
  all_goals by_cases hd : d.val < 64 <;> simp only [hd, dite_true, dite_false, if_true, if_false, not_false_eq_true]

/-- The sine of a row's offset. -/
theorem host_v53_1 (r : Fin 1024) (d : Fin 128) :
    StableHlo.after hostOps1_2 U (Proc.devRef .tc main_v53) (ix3 1 r d) =
      Ideal.sin (FloatOps.sitofp (F := Ideal) .f32 (BitVec.ofNat 32 r.val) * frq U d) := by
  unfold hostOps1_2 frq
  iterate 7 (try after_reads_simp; try pointwise)
  all_goals by_cases hd : d.val < 64 <;> simp only [hd, dite_true, dite_false, if_true, if_false, not_false_eq_true]

/-- The signed cosine of a row's offset. -/
theorem host_v53_2 (r : Fin 1024) (d : Fin 128) :
    StableHlo.after hostOps1_2 U (Proc.devRef .tc main_v53) (ix3 2 r d) =
      Ideal.cos (FloatOps.sitofp (F := Ideal) .f32 (BitVec.ofNat 32 r.val) * frq U d) * (if d.val < 64 then -1 else 1) := by
  unfold hostOps1_2 frq
  iterate 7 (try after_reads_simp; try pointwise)
  all_goals by_cases hd : d.val < 64 <;> simp only [hd, dite_true, dite_false, if_true, if_false, not_false_eq_true]

/-- The signed sine of a row's offset. -/
theorem host_v53_3 (r : Fin 1024) (d : Fin 128) :
    StableHlo.after hostOps1_2 U (Proc.devRef .tc main_v53) (ix3 3 r d) =
      Ideal.sin (FloatOps.sitofp (F := Ideal) .f32 (BitVec.ofNat 32 r.val) * frq U d) * (if d.val < 64 then -1 else 1) := by
  unfold hostOps1_2 frq
  iterate 7 (try after_reads_simp; try pointwise)
  all_goals by_cases hd : d.val < 64 <;> simp only [hd, dite_true, dite_false, if_true, if_false, not_false_eq_true]

/-- The exponents of the frequencies. -/
theorem host_v10 (i : Fin 64) :
    StableHlo.after hostOps1_1 (StableHlo.after hostOps1 U) (Proc.devRef .tc main_v10) (ix1 i) = MixSpec.lin i.val := by
  unfold hostOps1_1 hostOps1 MixSpec.lin
  simp only [StableHlo.TRef.binary, StableHlo.TRef.nullary, StableHlo.TRef.reshape, StableHlo.TRef.unary, StableHlo.TRef.toBuf, StableHlo.TRef.ofBuf, cast_eq]
  iterate 9 (try after_reads_simp; try pointwise)
  simp only [id]
  pointwise
  by_cases hd : i.val < 63 <;> simp only [hd, dite_true, dite_false, if_true, if_false, not_false_eq_true]

/-- The gates' columns. -/
theorem host_v57 (j : Fin 1024) (c : Fin 2048) :
    StableHlo.after hostOps3 U (Proc.devRef .tc main_v57) (ix3 0 j c) = U (Proc.devRef .tc main_arg2) (ix3 0 j ⟨2560 + c.val, by omega⟩) := by
  unfold hostOps3
  after_reads_simp
  pointwise

/-- The retention's output projection. -/
theorem host_v58 (j : Fin 512) (c : Fin 1024) :
    StableHlo.after hostOps3 U (Proc.devRef .tc main_v58) (ix3 0 j c) = U (Proc.devRef .tc main_arg6) (ix3 0 j c) := by
  unfold hostOps3
  after_reads_simp
  pointwise

/-- The Fourier branch's output projection. -/
theorem host_v59 (j : Fin 512) (c : Fin 1024) :
    StableHlo.after hostOps3 U (Proc.devRef .tc main_v59) (ix3 0 j c) = U (Proc.devRef .tc main_arg7) (ix3 0 j c) := by
  unfold hostOps3
  after_reads_simp
  pointwise

/-- The closing projection. -/
theorem host_v60 (j : Fin 1024) (c : Fin 1024) :
    StableHlo.after hostOps3 U (Proc.devRef .tc main_v60) (ix3 0 j c) = U (Proc.devRef .tc main_arg8) (ix3 0 j c) := by
  unfold hostOps3
  after_reads_simp
  pointwise

end Cert.KernelIdeal.Mix
end
-- ==== Proof.MixReads.lean ====
module

public import proofs.«01_k».proof.Proof.MixFin1
public import proofs.«01_k».proof.Proof.MixFin2
public import proofs.«01_k».proof.Proof.MixFin3
public import proofs.«01_k».proof.Proof.MixDecay
public import proofs.«01_k».proof.Proof.MixHost

@[expose] public section
set_option maxRecDepth 16384
noncomputable section

/-!
# What the last call reads

Every array in front of the last call, from the arrays in front of the calls that left it.
-/

namespace Cert.KernelIdeal.Mix

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The gain of the last call is the gain of the first. -/
theorem rd_v8_1 : V8 m ρ c main_v8 = V1 m ρ c main_v8 :=
  (W8_of m ρ c main_v8 (by decide)).trans <| (W7_of m ρ c main_v8 (by decide +kernel)).trans <| (W6_of m ρ c main_v8 (by decide +kernel)).trans <|
    (W5_of m ρ c main_v8 (by decide)).trans <| (W4_of m ρ c main_v8 (by decide)).trans <| (W3_of m ρ c main_v8 (by decide)).trans <|
      W2_of m ρ c main_v8 (by decide +kernel)

/-- The gain of the projection's call. -/
theorem rd_v8_5 : V5 m ρ c main_v8 = V8 m ρ c main_v8 :=
  ((W8_of m ρ c main_v8 (by decide)).trans <| (W7_of m ρ c main_v8 (by decide +kernel)).trans <| W6_of m ρ c main_v8 (by decide +kernel)).symm

/-- The projection's columns. -/
theorem rd_v7 : V5 m ρ c main_v7 = V1 m ρ c main_v7 :=
  (W5_of m ρ c main_v7 (by decide)).trans <| (W4_of m ρ c main_v7 (by decide)).trans <| (W3_of m ρ c main_v7 (by decide)).trans <|
      W2_of m ρ c main_v7 (by decide +kernel)

/-- The queries. -/
theorem rd_q : V8 m ρ c main_v54_0 = (dat1 (V5 m ρ) c).arrAt 7 cfg1.N :=
  (W8_of m ρ c main_v54_0 (by decide)).trans <| (W7_of m ρ c main_v54_0 (by decide +kernel)).trans <| W6_arr m ρ c 7
/-- The keys. -/
theorem rd_k : V8 m ρ c main_v54_1 = (dat1 (V5 m ρ) c).arrAt 8 cfg1.N :=
  (W8_of m ρ c main_v54_1 (by decide)).trans <| (W7_of m ρ c main_v54_1 (by decide +kernel)).trans <| W6_arr m ρ c 8
/-- The values. -/
theorem rd_v : V8 m ρ c main_v54_2 = (dat1 (V5 m ρ) c).arrAt 9 cfg1.N :=
  (W8_of m ρ c main_v54_2 (by decide)).trans <| (W7_of m ρ c main_v54_2 (by decide +kernel)).trans <| W6_arr m ρ c 9
/-- The gates. -/
theorem rd_g : V8 m ρ c main_v54_3 = (dat1 (V5 m ρ) c).arrAt 10 cfg1.N :=
  (W8_of m ρ c main_v54_3 (by decide)).trans <| (W7_of m ρ c main_v54_3 (by decide +kernel)).trans <| W6_arr m ρ c 10
/-- The tiles' summaries. -/
theorem rd_kv : V6 m ρ c main_v54_5 = (dat1 (V5 m ρ) c).arrAt 12 cfg1.N := W6_arr m ρ c 12
/-- The states. -/
theorem rd_st : V8 m ρ c main_v55 = (dat2 (V6 m ρ) c).arrAt 3 cfg2.N :=
  (W8_of m ρ c main_v55 (by decide)).trans <| W7_arr m ρ c 3
/-- The decays of a chunk. -/
theorem rd_ma : V8 m ρ c main_v9_0 = (dat0 (V1 m ρ) c).arrAt 2 cfg0.N :=
  (W8_of m ρ c main_v9_0 (by decide)).trans <| (W7_of m ρ c main_v9_0 (by decide +kernel)).trans <| (W6_of m ρ c main_v9_0 (by decide +kernel)).trans <|
    (W5_of m ρ c main_v9_0 (by decide)).trans <| (W4_of m ρ c main_v9_0 (by decide)).trans <| (W3_of m ρ c main_v9_0 (by decide)).trans <|
      W2_arr m ρ c 2
/-- The decays of a chunk's rows. -/
theorem rd_de : V8 m ρ c main_v9_1 = (dat0 (V1 m ρ) c).arrAt 3 cfg0.N :=
  (W8_of m ρ c main_v9_1 (by decide)).trans <| (W7_of m ρ c main_v9_1 (by decide +kernel)).trans <| (W6_of m ρ c main_v9_1 (by decide +kernel)).trans <|
    (W5_of m ρ c main_v9_1 (by decide)).trans <| (W4_of m ρ c main_v9_1 (by decide)).trans <| (W3_of m ρ c main_v9_1 (by decide)).trans <|
      W2_arr m ρ c 3

/-- The kernel's frequencies. -/
theorem frq_eq (d : Fin 128) : frq (W4 m ρ c) d = MixSpec.frq (d.val % 64) := by
  have h10 : ∀ i : Fin 64, W4 m ρ c (Proc.devRef .tc main_v10) (ix1 i) = MixSpec.lin i.val := fun i => host_v10 (W2 m ρ c) i
  unfold frq MixSpec.frq
  by_cases hd : d.val < 64
  · rw [dif_pos hd, h10, Nat.mod_eq_of_lt hd]
  · rw [dif_neg hd, h10, show d.val % 64 = d.val - 64 by omega]

/-- The arguments in front of the projection's call. -/
theorem rd_arg5 (a : Ref sig .tc) (ha : a ∈ argRefs) : V5 m ρ c a = V8 m ρ c a := (W5_args m ρ c a ha).trans (W8_args m ρ c a ha).symm
/-- The arguments in front of the states' call. -/
theorem rd_arg6 (a : Ref sig .tc) (ha : a ∈ argRefs) : V6 m ρ c a = V8 m ρ c a := (W6_args m ρ c a ha).trans (W8_args m ρ c a ha).symm
/-- The arguments in front of the first call. -/
theorem rd_arg1 (a : Ref sig .tc) (ha : a ∈ argRefs) : V1 m ρ c a = V8 m ρ c a := (W1_args m ρ c a ha).trans (W8_args m ρ c a ha).symm

end Cert.KernelIdeal.Mix
end
-- ==== Proof.MixRun.lean ====
module

public import proofs.«01_k».proof.Proof.Gen.KernelIdeal.Frame

@[expose] public section
set_option maxRecDepth 16384
noncomputable section

/-!
# The run of the mixer's kernel with its result

The launch of the four calls, read at the result array as well as at the arguments.
-/

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- Every run leaves the arguments as they were, and the last call's output array in the result. -/
theorem run_out : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_v61) = (dat3 (V8 m ρ) c).arrAt 16 cfg3.N)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => ⟨(fun c =>
      ⟨(h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_v61 (by decide))).trans (W9_arr m ρ c 16)⟩), funext fun g => hz g (.inr (no_unscoped g.2))⟩)

end Cert.KernelIdeal.Gen
end
-- ==== Proof.Mix.lean ====
module

public import proofs.«01_k».proof.Defs
public import proofs.«01_k».proof.Proof.MixEq
public import proofs.«01_k».proof.Proof.MixPre
public import proofs.«01_k».proof.Proof.MixReads
public import proofs.«01_k».proof.Proof.MixRun

@[expose] public section
set_option maxRecDepth 16384
noncomputable section

/-!
# The mixer's claim

From memories with the same arguments, finite where the precondition says so, the mixer and its reference leave the same
array.
-/

namespace Cert.Proof

open Idealize.ShloMosaic Idealize.ShloMosaic.TcCoe Idealize.SL.Sem Idealize.ShloMosaic.StableHlo
open Cert.KernelIdeal Cert.KernelIdeal.Gen Cert.KernelIdeal.Mix Cert.MixSpec Cert.MixRot Cert.MixVal Cert.MixEq
open Cert.ReferenceIdeal.Value (pR val4)

variable (m : (ℓ : Loc nD τ sig) → Buf (Elt Ideal) ℓ) (ρ : Dev nD → PrngReg) (c : Dev nD)
  (U : Valuation ReferenceIdeal.τ ReferenceIdeal.sig (Elt Ideal))

/-- The tiles' tables in front of the projection's call. -/
theorem base_ok : BaseOk (V5 m ρ c main_v37) := fun t d =>
  ⟨(host_v37_0 (W4 m ρ c) t 0 d).trans (by rw [frq_eq]), (host_v37_1 (W4 m ρ c) t 0 d).trans (by rw [frq_eq])⟩

/-- The rows' tables in front of the projection's call. -/
theorem rows_ok : RowsOk (V5 m ρ c main_v53) := fun r d =>
  ⟨(host_v53_0 (W4 m ρ c) r d).trans (by rw [frq_eq]), (host_v53_1 (W4 m ρ c) r d).trans (by rw [frq_eq]),
    (host_v53_2 (W4 m ρ c) r d).trans (by rw [frq_eq]), (host_v53_3 (W4 m ρ c) r d).trans (by rw [frq_eq])⟩

/-- The gain in front of the last call. -/
theorem gain_eq (h1 : ∀ l j, m ((c.tc : Thread nD τ).loc main_arg1) (ix2 l j) = U (Proc.devRef .tc ReferenceIdeal.main_arg1) (ix2 l j))
    (j : Fin 1024) : V8 m ρ c main_v8 (ix3 0 0 j) = U (Proc.devRef .tc ReferenceIdeal.main_arg1) (ix2 0 j) := by
  rw [rd_v8_1]
  exact (host_v8 (W0 m ρ c) 0 j).trans (h1 0 j)

/-- The columns in front of the projection's call. -/
theorem cols_ok (h0 : ∀ b n j, V8 m ρ c main_arg0 (ix3 b n j) = U (Proc.devRef .tc ReferenceIdeal.main_arg0) (ix3 b n j))
    (h1 : ∀ l j, m ((c.tc : Thread nD τ).loc main_arg1) (ix2 l j) = U (Proc.devRef .tc ReferenceIdeal.main_arg1) (ix2 l j))
    (h2 : ∀ l j k, m ((c.tc : Thread nD τ).loc main_arg2) (ix3 l j k) = U (Proc.devRef .tc ReferenceIdeal.main_arg2) (ix3 l j k)) :
    ColsOk U (V8 m ρ c main_arg0) (V8 m ρ c main_v8) (V5 m ρ c main_v7) := by
  have hg := gain_eq m ρ c U h1
  refine ⟨fun b n col c' hc h' => ?_, fun b n col c' hc h' => ?_⟩
  · have hw : ∀ j, V5 m ρ c main_v7 (ix3 0 j col) = U (Proc.devRef .tc ReferenceIdeal.main_arg2) (ix3 0 j c') := fun j => by
      rw [rd_v7]; exact (host_v7_lo (W0 m ρ c) j col hc c' h').trans (h2 0 j c')
    unfold pA pR
    simp only [h0, hg, hw]
  · have hw : ∀ j, V5 m ρ c main_v7 (ix3 0 j col) = U (Proc.devRef .tc ReferenceIdeal.main_arg2) (ix3 0 j c') := fun j => by
      rw [rd_v7]; exact (host_v7_hi (W0 m ρ c) j col hc c' h').trans (h2 0 j c')
    unfold pA pR
    simp only [h0, hg, hw]

set_option maxHeartbeats 4000000 in
/-- The mixer and its reference leave the same array. -/
theorem mix : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => (dat3 (V8 m g) c).arrAt 16 cfg3.N, ?_, ?_⟩
  · exact (θ_run _ _ _).mono (fun r h c => by
      obtain ⟨a0, a1, a2, a3, a4, a5, a6, a7, a8, o⟩ := h.1 c
      exact ⟨o, a0, a1, a2, a3, a4, a5, a6, a7, a8⟩) (run_out m g)
  · refine (θ_run _ _ _).mono (fun r h c => ⟨(h c).1.trans ?_, (h c).2⟩) (Cert.ReferenceIdeal.Value.run m' g')
    refine (Cert.ReferenceIdeal.Value.val4_main_v186 (launchContents m' c)).symm.trans ?_
    obtain ⟨g0, g1, g2, g3, g4, g5, g6, g7, g8⟩ := hagree c
    obtain ⟨p1, p2, p3, p4⟩ := hpre c
    have h0 : ∀ b n j, V8 m g c main_arg0 (ix3 b n j) = launchContents m' c (Proc.devRef .tc ReferenceIdeal.main_arg0) (ix3 b n j) :=
      fun b n j => congrFun ((W8_args m g c main_arg0 (by decide)).trans g0.symm) (ix3 b n j)
    have h1 : ∀ l j, m ((c.tc : Thread nD τ).loc main_arg1) (ix2 l j) = launchContents m' c (Proc.devRef .tc ReferenceIdeal.main_arg1) (ix2 l j) :=
      fun l j => congrFun g1.symm (ix2 l j)
    have h2 : ∀ l j k, m ((c.tc : Thread nD τ).loc main_arg2) (ix3 l j k) = launchContents m' c (Proc.devRef .tc ReferenceIdeal.main_arg2) (ix3 l j k) :=
      fun l j k => congrFun g2.symm (ix3 l j k)
    have h3 : ∀ l j, V8 m g c main_arg3 (ix2 l j) = launchContents m' c (Proc.devRef .tc ReferenceIdeal.main_arg3) (ix2 l j) :=
      fun l j => congrFun ((W8_args m g c main_arg3 (by decide)).trans g3.symm) (ix2 l j)
    have h4 : ∀ l j, V8 m g c main_arg4 (ix2 l j) = launchContents m' c (Proc.devRef .tc ReferenceIdeal.main_arg4) (ix2 l j) :=
      fun l j => congrFun ((W8_args m g c main_arg4 (by decide)).trans g4.symm) (ix2 l j)
    have h5 : ∀ b n j, V8 m g c main_arg5 (ix3 b n j) = launchContents m' c (Proc.devRef .tc ReferenceIdeal.main_arg5) (ix3 b n j) :=
      fun b n j => congrFun ((W8_args m g c main_arg5 (by decide)).trans g5.symm) (ix3 b n j)
    have f1 : ∀ j, ∃ r : ℝ, launchContents m' c (Proc.devRef .tc ReferenceIdeal.main_arg1) (ix2 0 j) = (r : EReal) := fun j => by
      rw [← h1]
      exact MixPre.real_between ((MixPre.test_g _ _ _ _ _ _ _ _ _ j).symm.trans (congrFun p1 (ix1 j)))
    have f2 : ∀ (j : Fin 1024) (k : Fin 4608), k.val < 1536 → ∃ r : ℝ, launchContents m' c (Proc.devRef .tc ReferenceIdeal.main_arg2) (ix3 0 j k) = (r : EReal) := fun j k hk => by
      rw [← h2]
      exact MixPre.real_between ((MixPre.test_w _ _ _ _ _ _ _ _ _ j ⟨k.val, hk⟩).symm.trans (congrFun p2 (ix2 j ⟨k.val, hk⟩)))
    have f3 : ∀ h : Fin 4, ∃ r : ℝ, V8 m g c main_arg3 (ix2 0 h) = (r : EReal) := fun h => by
      rw [show V8 m g c main_arg3 = _ from W8_args m g c main_arg3 (by decide)]
      exact MixPre.real_between ((MixPre.test_f _ _ _ _ _ _ _ _ _ h).symm.trans (congrFun p3 (ix1 h)))
    have f4 : ∀ h : Fin 4, ∃ r : ℝ, V8 m g c main_arg4 (ix2 0 h) = (r : EReal) := fun h => by
      rw [show V8 m g c main_arg4 = _ from W8_args m g c main_arg4 (by decide)]
      exact MixPre.real_between ((MixPre.test_b _ _ _ _ _ _ _ _ _ h).symm.trans (congrFun p4 (ix1 h)))
    have hp : ∀ b n (k : Fin 4608), k.val < 1536 → ∃ r : ℝ, pR (launchContents m' c) b n k = (r : EReal) := fun b n k hk => by
      unfold pR
      exact proj_real _ _ _ f1 (fun j => f2 j k hk)
    have hG := gain_eq m g c (launchContents m' c) h1
    have hC := cols_ok m g c (launchContents m' c) h0 h1 h2
    show _ = (dat3 (V8 m g) c).arrAt 16 cfg3.N
    rw [out_final]
    funext i
    idx_vars i
    symm
    refine out_eq (U := launchContents m' c) (W := V5 m g c main_v7) (B := V5 m g c main_v37) (T := V5 m g c main_v53) (KV := V6 m g c main_v54_5)
      (base_ok m g c) (rows_ok m g c) hC hp (fun h => h3 0 h) (fun h => h4 0 h)
      f3 f4 ?_ ?_ ?_ ?_ ?_ ?_ ?_ ?_ h0 hG h5 ?_ ?_ ?_ ?_ i0 i1 i2
    · intro b n col
      rw [rd_q, q_final, rd_arg5 m g c main_arg0 (by decide), rd_v8_5]
      rfl
    · intro b n col
      rw [rd_k, k_final, rd_arg5 m g c main_arg0 (by decide), rd_v8_5]
      rfl
    · intro b n col
      rw [rd_v, v_final, rd_arg5 m g c main_arg0 (by decide), rd_v8_5]
      rfl
    · intro b n col
      rw [rd_g, gs_final, rd_arg5 m g c main_arg0 (by decide), rd_v8_5]
      rfl
    · intro b t p d e
      rw [rd_kv, kv_final, rd_arg5 m g c main_arg0 (by decide), rd_v8_5, rd_arg5 m g c main_arg3 (by decide), rd_arg5 m g c main_arg4 (by decide)]
      rfl
    · intro b t p d e
      rw [rd_st, st_final, rd_arg6 m g c main_arg3 (by decide), rd_arg6 m g c main_arg4 (by decide)]
      rfl
    · intro h r j
      rw [rd_ma, mask_final, rd_arg1 m g c main_arg3 (by decide), rd_arg1 m g c main_arg4 (by decide)]
      rfl
    · intro h i r d
      rw [rd_de, dec_final, rd_arg1 m g c main_arg3 (by decide), rd_arg1 m g c main_arg4 (by decide)]
      rfl
    · intro k j
      exact (host_v57 (W7 m g c) k j).trans (congrFun ((W7_args m g c main_arg2 (by decide)).trans g2.symm) _)
    · intro k j
      exact (host_v58 (W7 m g c) k j).trans (congrFun ((W7_args m g c main_arg6 (by decide)).trans g6.symm) _)
    · intro k j
      exact (host_v59 (W7 m g c) k j).trans (congrFun ((W7_args m g c main_arg7 (by decide)).trans g7.symm) _)
    · intro k j
      exact (host_v60 (W7 m g c) k j).trans (congrFun ((W7_args m g c main_arg8 (by decide)).trans g8.symm) _)

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite
public import proofs.«01_k».proof.Proof.Gen.Kernel2Ideal.Value
public import proofs.«01_k».proof.Proof.Gen.Kernel3Ideal.Value
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.ReferenceIdeal.Run
public import proofs.«01_k».proof.Proof.Gen.ReferenceIdeal.Read
public import proofs.«01_k».proof.Proof.Ffn2
public import proofs.«01_k».proof.Proof.Ffn3
public import proofs.«01_k».proof.Proof.Mix
public import Idealize.ShloMosaic.Adequacy
public import Idealize.ShloMosaic.Init

@[expose] public section

noncomputable section

namespace Cert.Proof

open Idealize.ShloMosaic Idealize.SL.Sem Cert.Kernel

/-- Every claim of this directory. -/
theorem claim : Cert.Claim :=
  ⟨Cert.Kernel.Gen.facts,
    Cert.KernelIdeal.Gen.facts,
    Cert.ReferenceIdeal.Gen.facts,
    Cert.Kernel2.Gen.facts,
    Cert.Kernel2Ideal.Gen.facts,
    Cert.Reference2Ideal.Gen.facts,
    Cert.Kernel3.Gen.facts,
    Cert.Kernel3Ideal.Gen.facts,
    Cert.Reference3Ideal.Gen.facts,
    Cert.Pre_finite.Gen.facts,
    fun m ρ _ => Cert.Kernel.Gen.frame m ρ,
    fun m ρ _ => Cert.KernelIdeal.Gen.frame m ρ,
    fun m ρ _ => Cert.KernelIdeal.Gen.frame m ρ,
    fun m ρ _ => (θ_run _ _ _).mono (fun r h => ⟨fun c => (h c).2, sem_eq_zero_of_no_sems (by decide) r.2⟩) (Cert.ReferenceIdeal.Value.run m ρ),
    fun m ρ _ => (θ_run _ _ _).mono (fun r h => ⟨fun c => (h c).2, sem_eq_zero_of_no_sems (by decide) r.2⟩) (Cert.ReferenceIdeal.Value.run m ρ),
    fun m ρ _ => Cert.Kernel2.Gen.frame m ρ,
    fun m ρ _ => Cert.Kernel2Ideal.Gen.frame m ρ,
    fun m ρ _ => (θ_run _ _ _).mono (fun r h => ⟨fun c => (h c).2, sem_eq_zero_of_no_sems (by decide) r.2⟩) (Cert.Reference2Ideal.Value.run m ρ),
    fun m ρ _ => Cert.Kernel3.Gen.frame m ρ,
    fun m ρ _ => Cert.Kernel3Ideal.Gen.frame m ρ,
    fun m ρ _ => (θ_run _ _ _).mono (fun r h => ⟨fun c => (h c).2, sem_eq_zero_of_no_sems (by decide) r.2⟩) (Cert.Reference3Ideal.Value.run m ρ),
    trivial,
    Cert.Proof.mix,
    trivial,
    Cert.Proof.ffn2,
    trivial,
    Cert.Proof.ffn3⟩

end Cert.Proof

end
